-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_canny_tables [hPre_canny_tables : Cert.Pre_canny_tables.Facts] (m : (ℓ : Loc Cert.KernelIdeal.nD Cert.KernelIdeal.τ Cert.KernelIdeal.sig) → Buf (Elt Ideal) ℓ) : Prop :=
  ∀ c : Dev Cert.KernelIdeal.nD,
    (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.1 = (fun _ => 1#1)
    ∧ (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.1 = (fun _ => 1#1)
    ∧ (Cert.Pre_canny_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_canny_tables [hPre_canny_tables : Cert.Pre_canny_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.1 = (fun _ => 1#1)
    ∧ (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.1 = (fun _ => 1#1)
    ∧ (Cert.Pre_canny_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_canny_tables [hKernelIdeal : Cert.KernelIdeal.Facts] [hPre_canny_tables : Cert.Pre_canny_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_canny_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_canny_tables [hReferenceIdeal : Cert.ReferenceIdeal.Facts] [hPre_canny_tables : Cert.Pre_canny_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_canny_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_off_the_boundaries_pre_canny_tables [hKernelIdeal : Cert.KernelIdeal.Facts] [hReferenceIdeal : Cert.ReferenceIdeal.Facts] [hPre_canny_tables : Cert.Pre_canny_tables.Facts] [hOn_off_the_boundaries : Cert.On_off_the_boundaries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_canny_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![16, 1, 512, 512]⟩ : Shape).Idx, (Cert.On_off_the_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v2_0) i = v0 c i)
          ∧ (∀ i : (⟨4, ![16, 2, 512, 512]⟩ : Shape).Idx, (Cert.On_off_the_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.KernelIdeal.nD Cert.KernelIdeal.τ).loc Cert.KernelIdeal.main_v2_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![16, 1, 512, 512]⟩ : Shape).Idx, (Cert.On_off_the_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v117) i = v0 c i)
          ∧ (∀ i : (⟨4, ![16, 2, 512, 512]⟩ : Shape).Idx, (Cert.On_off_the_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.ReferenceIdeal.nD Cert.ReferenceIdeal.τ).loc Cert.ReferenceIdeal.main_v114) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_canny_tables : Cert.Pre_canny_tables.Facts) (hOn_off_the_boundaries : Cert.On_off_the_boundaries.Facts),
    quiescent_Kernel (hKernel := hKernel)
    ∧ quiescent_KernelIdeal (hKernelIdeal := hKernelIdeal)
    ∧ quiescent_KernelIdeal_pre_canny_tables (hKernelIdeal := hKernelIdeal) (hPre_canny_tables := hPre_canny_tables)
    ∧ quiescent_ReferenceIdeal (hReferenceIdeal := hReferenceIdeal)
    ∧ quiescent_ReferenceIdeal_pre_canny_tables (hReferenceIdeal := hReferenceIdeal) (hPre_canny_tables := hPre_canny_tables)
    ∧ preserves_Kernel_KernelIdeal
    ∧ algebraic_KernelIdeal_ReferenceIdeal_on_off_the_boundaries_pre_canny_tables (hKernelIdeal := hKernelIdeal) (hReferenceIdeal := hReferenceIdeal) (hPre_canny_tables := hPre_canny_tables) (hOn_off_the_boundaries := hOn_off_the_boundaries)
-- ==== On_off_the_boundaries.lean ====
abbrev S16x3x512x512 : Shape := ⟨4, ![16, 3, 512, 512]⟩
abbrev S1x1x5x5 : Shape := ⟨4, ![1, 1, 5, 5]⟩
abbrev S8x1x3x3 : Shape := ⟨4, ![8, 1, 3, 3]⟩
abbrev S1x1x3x3 : Shape := ⟨4, ![1, 1, 3, 3]⟩
abbrev S8x2 : Shape := ⟨2, ![8, 2]⟩
abbrev S_ : Shape := ⟨0, ![]⟩
abbrev S16x512x512 : Shape := ⟨3, ![16, 512, 512]⟩
abbrev S16x1x512x512 : Shape := ⟨4, ![16, 1, 512, 512]⟩
abbrev S16x1x1x512 : Shape := ⟨4, ![16, 1, 1, 512]⟩
abbrev S16x1x2x512 : Shape := ⟨4, ![16, 1, 2, 512]⟩
abbrev S16x1x514x512 : Shape := ⟨4, ![16, 1, 514, 512]⟩
abbrev S16x1x516x512 : Shape := ⟨4, ![16, 1, 516, 512]⟩
abbrev S16x1x516x1 : Shape := ⟨4, ![16, 1, 516, 1]⟩
abbrev S16x1x516x2 : Shape := ⟨4, ![16, 1, 516, 2]⟩
abbrev S16x1x516x514 : Shape := ⟨4, ![16, 1, 516, 514]⟩
abbrev S16x1x516x516 : Shape := ⟨4, ![16, 1, 516, 516]⟩
abbrev S16x5x516x512 : Shape := ⟨4, ![16, 5, 516, 512]⟩
abbrev S16x5x512x512 : Shape := ⟨4, ![16, 5, 512, 512]⟩
abbrev S16x25x512x512 : Shape := ⟨4, ![16, 25, 512, 512]⟩
abbrev S1x25x1x1 : Shape := ⟨4, ![1, 25, 1, 1]⟩
abbrev S16x2x512x512 : Shape := ⟨4, ![16, 2, 512, 512]⟩

class Facts : Prop where
  reducesTo_S16x3x512x512_S_d0_1_2_3 : S16x3x512x512.ReducesTo [0, 1, 2, 3] S_
  h_S_ : 0 < S_.numel
  bcast_S_S16x3x512x512 : S_.BroadcastsInDim S16x3x512x512 (![] : Fin 0 → Fin S16x3x512x512.rank)
  reducesTo_S16x3x512x512_S16x512x512_d1 : S16x3x512x512.ReducesTo [1] S16x512x512
  bcast_S16x512x512_S16x1x512x512_0_2_3 : S16x512x512.BroadcastsInDim S16x1x512x512 (![0, 2, 3] : Fin 3 → Fin S16x1x512x512.rank)
  reducesTo_S16x1x512x512_S_d0_1_2_3 : S16x1x512x512.ReducesTo [0, 1, 2, 3] S_
  bcast_S_S16x1x512x512 : S_.BroadcastsInDim S16x1x512x512 (![] : Fin 0 → Fin S16x1x512x512.rank)
  slices_S16x1x512x512_S16x1x1x512_0_0_0_0 : S16x1x512x512.Slices ![0, 0, 0, 0] S16x1x1x512
  slices_S16x1x512x512_S16x1x2x512_0_0_1_0 : S16x1x512x512.Slices ![0, 0, 1, 0] S16x1x2x512
  concatenates_S16x1x2x512_S16x1x512x512_S16x1x514x512_d2 : Shape.Concatenates [S16x1x2x512, S16x1x512x512] S16x1x514x512 2
  slices_S16x1x514x512_S16x1x1x512_0_0_513_0 : S16x1x514x512.Slices ![0, 0, 513, 0] S16x1x1x512
  slices_S16x1x514x512_S16x1x2x512_0_0_511_0 : S16x1x514x512.Slices ![0, 0, 511, 0] S16x1x2x512
  concatenates_S16x1x514x512_S16x1x2x512_S16x1x516x512_d2 : Shape.Concatenates [S16x1x514x512, S16x1x2x512] S16x1x516x512 2
  slices_S16x1x516x512_S16x1x516x1_0_0_0_0 : S16x1x516x512.Slices ![0, 0, 0, 0] S16x1x516x1
  slices_S16x1x516x512_S16x1x516x2_0_0_0_1 : S16x1x516x512.Slices ![0, 0, 0, 1] S16x1x516x2
  concatenates_S16x1x516x2_S16x1x516x512_S16x1x516x514_d3 : Shape.Concatenates [S16x1x516x2, S16x1x516x512] S16x1x516x514 3
  slices_S16x1x516x514_S16x1x516x1_0_0_0_513 : S16x1x516x514.Slices ![0, 0, 0, 513] S16x1x516x1
  slices_S16x1x516x514_S16x1x516x2_0_0_0_511 : S16x1x516x514.Slices ![0, 0, 0, 511] S16x1x516x2
  concatenates_S16x1x516x514_S16x1x516x2_S16x1x516x516_d3 : Shape.Concatenates [S16x1x516x514, S16x1x516x2] S16x1x516x516 3
  slices_S16x1x516x516_S16x1x516x512_0_0_0_0 : S16x1x516x516.Slices ![0, 0, 0, 0] S16x1x516x512
  slices_S16x1x516x516_S16x1x516x512_0_0_0_1 : S16x1x516x516.Slices ![0, 0, 0, 1] S16x1x516x512
  slices_S16x1x516x516_S16x1x516x512_0_0_0_2 : S16x1x516x516.Slices ![0, 0, 0, 2] S16x1x516x512
  slices_S16x1x516x516_S16x1x516x512_0_0_0_3 : S16x1x516x516.Slices ![0, 0, 0, 3] S16x1x516x512
  slices_S16x1x516x516_S16x1x516x512_0_0_0_4 : S16x1x516x516.Slices ![0, 0, 0, 4] S16x1x516x512
  concatenates_S16x1x516x512_S16x1x516x512_S16x1x516x512_S16x1x516x512_S16x1x516x512_S16x5x516x512_d1 : Shape.Concatenates [S16x1x516x512, S16x1x516x512, S16x1x516x512, S16x1x516x512, S16x1x516x512] S16x5x516x512 1
  slices_S16x5x516x512_S16x5x512x512_0_0_0_0 : S16x5x516x512.Slices ![0, 0, 0, 0] S16x5x512x512
  slices_S16x5x516x512_S16x5x512x512_0_0_1_0 : S16x5x516x512.Slices ![0, 0, 1, 0] S16x5x512x512
  slices_S16x5x516x512_S16x5x512x512_0_0_2_0 : S16x5x516x512.Slices ![0, 0, 2, 0] S16x5x512x512
  slices_S16x5x516x512_S16x5x512x512_0_0_3_0 : S16x5x516x512.Slices ![0, 0, 3, 0] S16x5x512x512
  slices_S16x5x516x512_S16x5x512x512_0_0_4_0 : S16x5x516x512.Slices ![0, 0, 4, 0] S16x5x512x512
  concatenates_S16x5x512x512_S16x5x512x512_S16x5x512x512_S16x5x512x512_S16x5x512x512_S16x25x512x512_d1 : Shape.Concatenates [S16x5x512x512, S16x5x512x512, S16x5x512x512, S16x5x512x512, S16x5x512x512] S16x25x512x512 1
  shapeCasts_S1x1x5x5_S1x25x1x1 : S1x1x5x5.ShapeCasts S1x25x1x1
  bcast_S1x25x1x1_S16x25x512x512_0_1_2_3 : S1x25x1x1.BroadcastsInDim S16x25x512x512 (![0, 1, 2, 3] : Fin 4 → Fin S16x25x512x512.rank)
  reducesTo_S16x25x512x512_S16x512x512_d1 : S16x25x512x512.ReducesTo [1] S16x512x512
  bcast_S_S16x2x512x512 : S_.BroadcastsInDim S16x2x512x512 (![] : Fin 0 → Fin S16x2x512x512.rank)

variable [Facts]

def fn_where {F : FTy → Type} [FloatOps F] (arg0 : IVec S_ 1) (arg1 : FVec F S16x3x512x512 .f32) (arg2 : FVec F S16x3x512x512 .f32) : FVec F S16x3x512x512 .f32 :=
  let v0 : FVec F S16x3x512x512 .f32 := (fun p a b => select (broadcastInDim S16x3x512x512 ![] bcast_S_S16x3x512x512 p) a b) arg0 arg1 arg2
  v0

def fn_flip {F : FTy → Type} [FloatOps F] (arg0 : FVec F S16x1x2x512 .f32) : FVec F S16x1x2x512 .f32 :=
  let v0 : FVec F S16x1x2x512 .f32 := Host.reverse [2] arg0
  v0

def fn_flip_0 {F : FTy → Type} [FloatOps F] (arg0 : FVec F S16x1x516x2 .f32) : FVec F S16x1x516x2 .f32 :=
  let v0 : FVec F S16x1x516x2 .f32 := Host.reverse [3] arg0
  v0

def fn_pad {F : FTy → Type} [FloatOps F] (arg0 : FVec F S16x1x512x512 .f32) (arg1 : IVec S_ 32) : FVec F S16x1x516x516 .f32 :=
  let v0 : FVec F S16x1x1x512 .f32 := (extractStridedSlice S16x1x1x512 ![0, 0, 0, 0] · slices_S16x1x512x512_S16x1x1x512_0_0_0_0) arg0
  let v1 : FVec F S16x1x2x512 .f32 := (extractStridedSlice S16x1x2x512 ![0, 0, 1, 0] · slices_S16x1x512x512_S16x1x2x512_0_0_1_0) arg0
  let v2 : FVec F S16x1x2x512 .f32 := fn_flip (F := F) v1
  let v3 : FVec F S16x1x514x512 .f32 := (fun a b => concatenate S16x1x514x512 2 [⟨S16x1x2x512, a⟩, ⟨S16x1x512x512, b⟩] concatenates_S16x1x2x512_S16x1x512x512_S16x1x514x512_d2) v2 arg0
  let v4 : FVec F S16x1x1x512 .f32 := (extractStridedSlice S16x1x1x512 ![0, 0, 513, 0] · slices_S16x1x514x512_S16x1x1x512_0_0_513_0) v3
  let v5 : FVec F S16x1x2x512 .f32 := (extractStridedSlice S16x1x2x512 ![0, 0, 511, 0] · slices_S16x1x514x512_S16x1x2x512_0_0_511_0) v3
  let v6 : FVec F S16x1x2x512 .f32 := fn_flip (F := F) v5
  let v7 : FVec F S16x1x516x512 .f32 := (fun a b => concatenate S16x1x516x512 2 [⟨S16x1x514x512, a⟩, ⟨S16x1x2x512, b⟩] concatenates_S16x1x514x512_S16x1x2x512_S16x1x516x512_d2) v3 v6
  let v8 : FVec F S16x1x516x1 .f32 := (extractStridedSlice S16x1x516x1 ![0, 0, 0, 0] · slices_S16x1x516x512_S16x1x516x1_0_0_0_0) v7
  let v9 : FVec F S16x1x516x2 .f32 := (extractStridedSlice S16x1x516x2 ![0, 0, 0, 1] · slices_S16x1x516x512_S16x1x516x2_0_0_0_1) v7
  let v10 : FVec F S16x1x516x2 .f32 := fn_flip_0 (F := F) v9
  let v11 : FVec F S16x1x516x514 .f32 := (fun a b => concatenate S16x1x516x514 3 [⟨S16x1x516x2, a⟩, ⟨S16x1x516x512, b⟩] concatenates_S16x1x516x2_S16x1x516x512_S16x1x516x514_d3) v10 v7
  let v12 : FVec F S16x1x516x1 .f32 := (extractStridedSlice S16x1x516x1 ![0, 0, 0, 513] · slices_S16x1x516x514_S16x1x516x1_0_0_0_513) v11
  let v13 : FVec F S16x1x516x2 .f32 := (extractStridedSlice S16x1x516x2 ![0, 0, 0, 511] · slices_S16x1x516x514_S16x1x516x2_0_0_0_511) v11
  let v14 : FVec F S16x1x516x2 .f32 := fn_flip_0 (F := F) v13
  let v15 : FVec F S16x1x516x516 .f32 := (fun a b => concatenate S16x1x516x516 3 [⟨S16x1x516x514, a⟩, ⟨S16x1x516x2, b⟩] concatenates_S16x1x516x514_S16x1x516x2_S16x1x516x516_d3) v11 v14
  v15

def fn_part2 {F : FTy → Type} [FloatOps F] (main_v36 : FVec F S16x1x512x512 .f32) (main_v37 : FVec F S16x1x512x512 .f32) (main_cst_7 : FVec F S_ .f32) : IVec S16x1x512x512 1 × IVec S16x2x512x512 1 :=
  let main_v38 : FVec F S16x1x512x512 .f32 := broadcastInDim S16x1x512x512 ![] bcast_S_S16x1x512x512 main_cst_7
  let main_v39 : FVec F S16x1x512x512 .f32 := addf main_v36 main_v38
  let main_v40 : FVec F S16x1x512x512 .f32 := Host.absf main_v39
  let main_cst_8 : FVec F S_ .f32 := constant S_ .f32 0x3ED413CD#32
  let main_v41 : FVec F S16x1x512x512 .f32 := broadcastInDim S16x1x512x512 ![] bcast_S_S16x1x512x512 main_cst_8
  let main_v42 : FVec F S16x1x512x512 .f32 := mulf main_v41 main_v40
  let main_v43 : FVec F S16x1x512x512 .f32 := subf main_v37 main_v42
  let main_v44 : FVec F S16x1x512x512 .f32 := Host.absf main_v43
  let main_cst_9 : FVec F S_ .f32 := constant S_ .f32 0x34000000#32
  let main_v45 : FVec F S16x1x512x512 .f32 := broadcastInDim S16x1x512x512 ![] bcast_S_S16x1x512x512 main_cst_9
  let main_v46 : FVec F S16x1x512x512 .f32 := mulf main_v45 main_v40
  let main_v47 : IVec S16x1x512x512 1 := cmpf .oge main_v44 main_v46
  let main_cst_10 : FVec F S_ .f32 := constant S_ .f32 0x3ED413CD#32
  let main_v48 : FVec F S16x1x512x512 .f32 := broadcastInDim S16x1x512x512 ![] bcast_S_S16x1x512x512 main_cst_10
  let main_v49 : FVec F S16x1x512x512 .f32 := mulf main_v48 main_v37
  let main_v50 : FVec F S16x1x512x512 .f32 := subf main_v40 main_v49
  let main_v51 : FVec F S16x1x512x512 .f32 := Host.absf main_v50
  let main_cst_11 : FVec F S_ .f32 := constant S_ .f32 0x34000000#32
  let main_v52 : FVec F S16x1x512x512 .f32 := broadcastInDim S16x1x512x512 ![] bcast_S_S16x1x512x512 main_cst_11
  let main_v53 : FVec F S16x1x512x512 .f32 := mulf main_v52 main_v37
  let main_v54 : IVec S16x1x512x512 1 := cmpf .oge main_v51 main_v53
  let main_v55 : IVec S16x1x512x512 1 := andi main_v47 main_v54
  let main_c_12 : IVec S_ 1 := constantI S_ 1 1#1
  let main_v56 : IVec S16x2x512x512 1 := broadcastInDim S16x2x512x512 ![] bcast_S_S16x2x512x512 main_c_12
  (main_v55, main_v56)

def fn_part1 {F : FTy → Type} [FloatOps F] (main_arg1 : FVec F S1x1x5x5 .f32) (main_arg2 : FVec F S1x1x5x5 .f32) (main_v14 : FVec F S16x1x516x516 .f32) (main_v15 : FVec F S16x1x516x512 .f32) (main_v16 : FVec F S16x1x516x512 .f32) : IVec S16x1x512x512 1 × IVec S16x2x512x512 1 :=
  let main_v17 : FVec F S16x1x516x512 .f32 := (extractStridedSlice S16x1x516x512 ![0, 0, 0, 2] · slices_S16x1x516x516_S16x1x516x512_0_0_0_2) main_v14
  let main_v18 : FVec F S16x1x516x512 .f32 := (extractStridedSlice S16x1x516x512 ![0, 0, 0, 3] · slices_S16x1x516x516_S16x1x516x512_0_0_0_3) main_v14
  let main_v19 : FVec F S16x1x516x512 .f32 := (extractStridedSlice S16x1x516x512 ![0, 0, 0, 4] · slices_S16x1x516x516_S16x1x516x512_0_0_0_4) main_v14
  let main_v20 : FVec F S16x5x516x512 .f32 := concatenate S16x5x516x512 1 [⟨S16x1x516x512, main_v15⟩, ⟨S16x1x516x512, main_v16⟩, ⟨S16x1x516x512, main_v17⟩, ⟨S16x1x516x512, main_v18⟩, ⟨S16x1x516x512, main_v19⟩] concatenates_S16x1x516x512_S16x1x516x512_S16x1x516x512_S16x1x516x512_S16x1x516x512_S16x5x516x512_d1
  let main_v21 : FVec F S16x5x512x512 .f32 := (extractStridedSlice S16x5x512x512 ![0, 0, 0, 0] · slices_S16x5x516x512_S16x5x512x512_0_0_0_0) main_v20
  let main_v22 : FVec F S16x5x512x512 .f32 := (extractStridedSlice S16x5x512x512 ![0, 0, 1, 0] · slices_S16x5x516x512_S16x5x512x512_0_0_1_0) main_v20
  let main_v23 : FVec F S16x5x512x512 .f32 := (extractStridedSlice S16x5x512x512 ![0, 0, 2, 0] · slices_S16x5x516x512_S16x5x512x512_0_0_2_0) main_v20
  let main_v24 : FVec F S16x5x512x512 .f32 := (extractStridedSlice S16x5x512x512 ![0, 0, 3, 0] · slices_S16x5x516x512_S16x5x512x512_0_0_3_0) main_v20
  let main_v25 : FVec F S16x5x512x512 .f32 := (extractStridedSlice S16x5x512x512 ![0, 0, 4, 0] · slices_S16x5x516x512_S16x5x512x512_0_0_4_0) main_v20
  let main_v26 : FVec F S16x25x512x512 .f32 := concatenate S16x25x512x512 1 [⟨S16x5x512x512, main_v21⟩, ⟨S16x5x512x512, main_v22⟩, ⟨S16x5x512x512, main_v23⟩, ⟨S16x5x512x512, main_v24⟩, ⟨S16x5x512x512, main_v25⟩] concatenates_S16x5x512x512_S16x5x512x512_S16x5x512x512_S16x5x512x512_S16x5x512x512_S16x25x512x512_d1
  let main_v27 : FVec F S1x25x1x1 .f32 := shapeCast S1x25x1x1 main_arg1 shapeCasts_S1x1x5x5_S1x25x1x1
  let main_v28 : FVec F S16x25x512x512 .f32 := broadcastInDim S16x25x512x512 ![0, 1, 2, 3] bcast_S1x25x1x1_S16x25x512x512_0_1_2_3 main_v27
  let main_v29 : FVec F S16x25x512x512 .f32 := mulf main_v28 main_v26
  let main_cst_5 : FVec F S_ .f32 := constant S_ .f32 0x00000000#32
  let main_v30 : FVec F S16x512x512 .f32 := (fun x v => Host.reduceAdd x v reducesTo_S16x25x512x512_S16x512x512_d1 h_S_) main_v29 main_cst_5
  let main_v31 : FVec F S16x1x512x512 .f32 := broadcastInDim S16x1x512x512 ![0, 2, 3] bcast_S16x512x512_S16x1x512x512_0_2_3 main_v30
  let main_v32 : FVec F S1x25x1x1 .f32 := shapeCast S1x25x1x1 main_arg2 shapeCasts_S1x1x5x5_S1x25x1x1
  let main_v33 : FVec F S16x25x512x512 .f32 := broadcastInDim S16x25x512x512 ![0, 1, 2, 3] bcast_S1x25x1x1_S16x25x512x512_0_1_2_3 main_v32
  let main_v34 : FVec F S16x25x512x512 .f32 := mulf main_v33 main_v26
  let main_cst_6 : FVec F S_ .f32 := constant S_ .f32 0x00000000#32
  let main_v35 : FVec F S16x512x512 .f32 := (fun x v => Host.reduceAdd x v reducesTo_S16x25x512x512_S16x512x512_d1 h_S_) main_v34 main_cst_6
  let main_v36 : FVec F S16x1x512x512 .f32 := broadcastInDim S16x1x512x512 ![0, 2, 3] bcast_S16x512x512_S16x1x512x512_0_2_3 main_v35
  let main_v37 : FVec F S16x1x512x512 .f32 := Host.absf main_v31
  let main_cst_7 : FVec F S_ .f32 := constant S_ .f32 0x3727C5AC#32
  fn_part2 (F := F) main_v36 main_v37 main_cst_7

def fn {F : FTy → Type} [FloatOps F] (main_arg0 : FVec F S16x3x512x512 .f32) (main_arg1 : FVec F S1x1x5x5 .f32) (main_arg2 : FVec F S1x1x5x5 .f32) (main_arg3 : FVec F S8x1x3x3 .f32) (main_arg4 : FVec F S1x1x3x3 .f32) (main_arg5 : IVec S8x2 32) : IVec S16x1x512x512 1 × IVec S16x2x512x512 1 :=
  let main_cst : FVec F S_ .f32 := constant S_ .f32 0x7F800000#32
  let main_v0 : FVec F S_ .f32 := (fun x v => Host.reduce FloatOps.minimumf x v reducesTo_S16x3x512x512_S_d0_1_2_3 h_S_) main_arg0 main_cst
  let main_cst_0 : FVec F S_ .f32 := constant S_ .f32 0xBA83126F#32
  let main_v1 : IVec S_ 1 := cmpf .olt main_v0 main_cst_0
  let main_cst_1 : FVec F S_ .f32 := constant S_ .f32 0x3F800000#32
  let main_v2 : FVec F S16x3x512x512 .f32 := broadcastInDim S16x3x512x512 ![] bcast_S_S16x3x512x512 main_cst_1
  let main_v3 : FVec F S16x3x512x512 .f32 := addf main_arg0 main_v2
  let main_cst_2 : FVec F S_ .f32 := constant S_ .f32 0x40000000#32
  let main_v4 : FVec F S16x3x512x512 .f32 := broadcastInDim S16x3x512x512 ![] bcast_S_S16x3x512x512 main_cst_2
  let main_v5 : FVec F S16x3x512x512 .f32 := Host.divf main_v3 main_v4
  let main_v6 : FVec F S16x3x512x512 .f32 := fn_where (F := F) main_v1 main_v5 main_arg0
  let main_v7 : FVec F S16x3x512x512 .f32 := mulf main_v6 main_v6
  let main_cst_3 : FVec F S_ .f32 := constant S_ .f32 0x00000000#32
  let main_v8 : FVec F S16x512x512 .f32 := (fun x v => Host.reduceAdd x v reducesTo_S16x3x512x512_S16x512x512_d1 h_S_) main_v7 main_cst_3
  let main_v9 : FVec F S16x1x512x512 .f32 := broadcastInDim S16x1x512x512 ![0, 2, 3] bcast_S16x512x512_S16x1x512x512_0_2_3 main_v8
  let main_v10 : FVec F S16x1x512x512 .f32 := Host.sqrt main_v9
  let main_cst_4 : FVec F S_ .f32 := constant S_ .f32 0xFF800000#32
  let main_v11 : FVec F S_ .f32 := (fun x v => Host.reduce FloatOps.maximumf x v reducesTo_S16x1x512x512_S_d0_1_2_3 h_S_) main_v10 main_cst_4
  let main_v12 : FVec F S16x1x512x512 .f32 := broadcastInDim S16x1x512x512 ![] bcast_S_S16x1x512x512 main_v11
  let main_v13 : FVec F S16x1x512x512 .f32 := Host.divf main_v10 main_v12
  let main_c : IVec S_ 32 := constantI S_ 32 0#32
  let main_v14 : FVec F S16x1x516x516 .f32 := fn_pad (F := F) main_v13 main_c
  let main_v15 : FVec F S16x1x516x512 .f32 := (extractStridedSlice S16x1x516x512 ![0, 0, 0, 0] · slices_S16x1x516x516_S16x1x516x512_0_0_0_0) main_v14
  let main_v16 : FVec F S16x1x516x512 .f32 := (extractStridedSlice S16x1x516x512 ![0, 0, 0, 1] · slices_S16x1x516x516_S16x1x516x512_0_0_0_1) main_v14
  fn_part1 (F := F) main_arg1 main_arg2 main_v14 main_v15 main_v16
-- ==== Pre_canny_tables.lean ====
abbrev S16x3x512x512 : Shape := ⟨4, ![16, 3, 512, 512]⟩
abbrev S1x1x5x5 : Shape := ⟨4, ![1, 1, 5, 5]⟩
abbrev S8x1x3x3 : Shape := ⟨4, ![8, 1, 3, 3]⟩
abbrev S1x1x3x3 : Shape := ⟨4, ![1, 1, 3, 3]⟩
abbrev S8x2 : Shape := ⟨2, ![8, 2]⟩
abbrev S_ : Shape := ⟨0, ![]⟩

class Facts : Prop where
  reducesTo_S16x3x512x512_S_d0_1_2_3 : S16x3x512x512.ReducesTo [0, 1, 2, 3] S_
  h_S_ : 0 < S_.numel
  bcast_S_S1x1x5x5 : S_.BroadcastsInDim S1x1x5x5 (![] : Fin 0 → Fin S1x1x5x5.rank)

variable [Facts]

noncomputable abbrev lit0 : Fin 72 → BitVec 32 := fun
  | 0 => 0x00000000#32 | 1 => 0x3F800000#32 | 2 => 0x00000000#32 | 3 => 0x00000000#32 | 4 => 0x00000000#32 | 5 => 0x00000000#32 | 6 => 0x00000000#32 | 7 => 0x00000000#32
  | 8 => 0x00000000#32 | 9 => 0x00000000#32 | 10 => 0x00000000#32 | 11 => 0x00000000#32 | 12 => 0x00000000#32 | 13 => 0x00000000#32 | 14 => 0x00000000#32 | 15 => 0x00000000#32
  | 16 => 0x3F800000#32 | 17 => 0x00000000#32 | 18 => 0x00000000#32 | 19 => 0x00000000#32 | 20 => 0x00000000#32 | 21 => 0x3F800000#32 | 22 => 0x00000000#32 | 23 => 0x00000000#32
  | 24 => 0x00000000#32 | 25 => 0x00000000#32 | 26 => 0x00000000#32 | 27 => 0x00000000#32 | 28 => 0x00000000#32 | 29 => 0x00000000#32 | 30 => 0x00000000#32 | 31 => 0x00000000#32
  | 32 => 0x3F800000#32 | 33 => 0x00000000#32 | 34 => 0x00000000#32 | 35 => 0x00000000#32 | 36 => 0x3F800000#32 | 37 => 0x00000000#32 | 38 => 0x00000000#32 | 39 => 0x00000000#32
  | 40 => 0x00000000#32 | 41 => 0x00000000#32 | 42 => 0x00000000#32 | 43 => 0x00000000#32 | 44 => 0x00000000#32 | 45 => 0x00000000#32 | 46 => 0x00000000#32 | 47 => 0x00000000#32
  | 48 => 0x00000000#32 | 49 => 0x00000000#32 | 50 => 0x00000000#32 | 51 => 0x00000000#32 | 52 => 0x00000000#32 | 53 => 0x3F800000#32 | 54 => 0x00000000#32 | 55 => 0x00000000#32
  | 56 => 0x3F800000#32 | 57 => 0x00000000#32 | 58 => 0x00000000#32 | 59 => 0x00000000#32 | 60 => 0x00000000#32 | 61 => 0x00000000#32 | 62 => 0x00000000#32 | 63 => 0x00000000#32
  | 64 => 0x00000000#32 | 65 => 0x00000000#32 | 66 => 0x00000000#32 | 67 => 0x00000000#32 | 68 => 0x00000000#32 | 69 => 0x3F800000#32 | 70 => 0x00000000#32 | 71 => 0x00000000#32
  | _ => 0#32

noncomputable abbrev lit1 : Fin 16 → BitVec 32 := fun
  | 0 => 0#32 | 1 => 1#32 | 2 => 4#32 | 3 => 5#32 | 4 => 2#32 | 5 => 3#32 | 6 => 6#32 | 7 => 7#32
  | 8 => 0#32 | 9 => 1#32 | 10 => 4#32 | 11 => 5#32 | 12 => 2#32 | 13 => 3#32 | 14 => 6#32 | 15 => 7#32
  | _ => 0#32

def fn_part1 {F : FTy → Type} [FloatOps F] (main_arg1 : FVec F S1x1x5x5 .f32) (main_arg2 : FVec F S1x1x5x5 .f32) (main_arg3 : FVec F S8x1x3x3 .f32) (main_arg5 : IVec S8x2 32) (main_cst : FVec F S8x1x3x3 .f32) (main_c : IVec S8x2 32) (main_v2 : IVec S_ 1) (main_v5 : IVec S_ 1) (main_v8 : IVec S1x1x5x5 1) (main_v11 : IVec S1x1x5x5 1) (main_v13 : IVec S1x1x5x5 1) (main_v15 : FVec F S1x1x5x5 .f32) : IVec S_ 1 × IVec S_ 1 × IVec S1x1x5x5 1 × IVec S1x1x5x5 1 × IVec S1x1x5x5 1 × IVec S1x1x5x5 1 × IVec S1x1x5x5 1 × IVec S1x1x5x5 1 × IVec S8x1x3x3 1 × IVec S8x2 1 :=
  let main_v16 : IVec S1x1x5x5 1 := cmpf .oeq main_arg1 main_v15
  let main_v17 : FVec F S1x1x5x5 .f32 := Host.reverse [2] main_arg2
  let main_v18 : FVec F S1x1x5x5 .f32 := Host.negf main_v17
  let main_v19 : IVec S1x1x5x5 1 := cmpf .oeq main_arg2 main_v18
  let main_v20 : FVec F S1x1x5x5 .f32 := Host.reverse [3] main_arg2
  let main_v21 : IVec S1x1x5x5 1 := cmpf .oeq main_arg2 main_v20
  let main_v22 : IVec S8x1x3x3 1 := cmpf .oeq main_arg3 main_cst
  let main_v23 : IVec S8x2 1 := cmpi .eq main_arg5 main_c
  (main_v2, main_v5, main_v8, main_v11, main_v13, main_v16, main_v19, main_v21, main_v22, main_v23)

def fn {F : FTy → Type} [FloatOps F] (main_arg0 : FVec F S16x3x512x512 .f32) (main_arg1 : FVec F S1x1x5x5 .f32) (main_arg2 : FVec F S1x1x5x5 .f32) (main_arg3 : FVec F S8x1x3x3 .f32) (main_arg4 : FVec F S1x1x3x3 .f32) (main_arg5 : IVec S8x2 32) : IVec S_ 1 × IVec S_ 1 × IVec S1x1x5x5 1 × IVec S1x1x5x5 1 × IVec S1x1x5x5 1 × IVec S1x1x5x5 1 × IVec S1x1x5x5 1 × IVec S1x1x5x5 1 × IVec S8x1x3x3 1 × IVec S8x2 1 :=
  let main_cst : FVec F S8x1x3x3 .f32 := fun i => FloatOps.ofBits .f32 (lit0 (S8x1x3x3.rowMajor i))
  let main_c : IVec S8x2 32 := fun i => lit1 (S8x2.rowMajor i)
  let main_cst_0 : FVec F S_ .f32 := constant S_ .f32 0x7F800000#32
  let main_v0 : FVec F S_ .f32 := (fun x v => Host.reduce FloatOps.minimumf x v reducesTo_S16x3x512x512_S_d0_1_2_3 h_S_) main_arg0 main_cst_0
  let main_cst_1 : FVec F S_ .f32 := constant S_ .f32 0xBA83126F#32
  let main_v1 : IVec S_ 1 := cmpf .olt main_v0 main_cst_1
  let main_v2 : IVec S_ 1 := noti main_v1
  let main_v3 : FVec F S16x3x512x512 .f32 := Host.absf main_arg0
  let main_cst_2 : FVec F S_ .f32 := constant S_ .f32 0xFF800000#32
  let main_v4 : FVec F S_ .f32 := (fun x v => Host.reduce FloatOps.maximumf x v reducesTo_S16x3x512x512_S_d0_1_2_3 h_S_) main_v3 main_cst_2
  let main_cst_3 : FVec F S_ .f32 := constant S_ .f32 0x00000000#32
  let main_v5 : IVec S_ 1 := cmpf .ogt main_v4 main_cst_3
  let main_v6 : FVec F S1x1x5x5 .f32 := Host.absf main_arg1
  let main_cst_4 : FVec F S_ .f32 := constant S_ .f32 0x7F800000#32
  let main_v7 : FVec F S1x1x5x5 .f32 := broadcastInDim S1x1x5x5 ![] bcast_S_S1x1x5x5 main_cst_4
  let main_v8 : IVec S1x1x5x5 1 := cmpf .olt main_v6 main_v7
  let main_v9 : FVec F S1x1x5x5 .f32 := Host.absf main_arg2
  let main_cst_5 : FVec F S_ .f32 := constant S_ .f32 0x7F800000#32
  let main_v10 : FVec F S1x1x5x5 .f32 := broadcastInDim S1x1x5x5 ![] bcast_S_S1x1x5x5 main_cst_5
  let main_v11 : IVec S1x1x5x5 1 := cmpf .olt main_v9 main_v10
  let main_v12 : FVec F S1x1x5x5 .f32 := Host.reverse [2] main_arg1
  let main_v13 : IVec S1x1x5x5 1 := cmpf .oeq main_arg1 main_v12
  let main_v14 : FVec F S1x1x5x5 .f32 := Host.reverse [3] main_arg1
  let main_v15 : FVec F S1x1x5x5 .f32 := Host.negf main_v14
  fn_part1 (F := F) main_arg1 main_arg2 main_arg3 main_arg5 main_cst main_c main_v2 main_v5 main_v8 main_v11 main_v13 main_v15
-- ==== Kernel.lean ====
abbrev S16x3x512x512 : Shape := ⟨4, ![16, 3, 512, 512]⟩
abbrev S1x1x5x5 : Shape := ⟨4, ![1, 1, 5, 5]⟩
abbrev S8x1x3x3 : Shape := ⟨4, ![8, 1, 3, 3]⟩
abbrev S1x1x3x3 : Shape := ⟨4, ![1, 1, 3, 3]⟩
abbrev S8x2 : Shape := ⟨2, ![8, 2]⟩
abbrev S5x5 : Shape := ⟨2, ![5, 5]⟩
abbrev S16x1x512x512 : Shape := ⟨4, ![16, 1, 512, 512]⟩
abbrev S16x2x512x512 : Shape := ⟨4, ![16, 2, 512, 512]⟩
abbrev S1x3x512x512 : Shape := ⟨4, ![1, 3, 512, 512]⟩
abbrev S1x1x512x512 : Shape := ⟨4, ![1, 1, 512, 512]⟩
abbrev S1x2x512x512 : Shape := ⟨4, ![1, 2, 512, 512]⟩
abbrev S16x512x512 : Shape := ⟨3, ![16, 512, 512]⟩
abbrev S1x1 : Shape := ⟨2, ![1, 1]⟩
abbrev S3x512x512 : Shape := ⟨3, ![3, 512, 512]⟩
abbrev S1x512x512 : Shape := ⟨3, ![1, 512, 512]⟩
abbrev S512x512 : Shape := ⟨2, ![512, 512]⟩
abbrev S1 : Shape := ⟨1, ![1]⟩
abbrev S1x1x1 : Shape := ⟨3, ![1, 1, 1]⟩
abbrev S1x512 : Shape := ⟨2, ![1, 512]⟩
abbrev S516x512 : Shape := ⟨2, ![516, 512]⟩
abbrev S516x1 : Shape := ⟨2, ![516, 1]⟩
abbrev S516x510 : Shape := ⟨2, ![516, 510]⟩
abbrev S516x511 : Shape := ⟨2, ![516, 511]⟩
abbrev S512x1 : Shape := ⟨2, ![512, 1]⟩
abbrev S512x511 : Shape := ⟨2, ![512, 511]⟩
abbrev S511x512 : Shape := ⟨2, ![511, 512]⟩

abbrev nBuf : Space → Nat
  | .hbm => 10
  | .vmem => 7
  | .smem => 3
  | _ => 0

abbrev bufTy : (tb : Table) → Fin (tcTables nBuf tb) → BufTy
  | .hbm, ⟨0, _⟩ => ⟨S16x3x512x512, .f32⟩
  | .hbm, ⟨1, _⟩ => ⟨S1x1x5x5, .f32⟩
  | .hbm, ⟨2, _⟩ => ⟨S1x1x5x5, .f32⟩
  | .hbm, ⟨3, _⟩ => ⟨S8x1x3x3, .f32⟩
  | .hbm, ⟨4, _⟩ => ⟨S1x1x3x3, .f32⟩
  | .hbm, ⟨5, _⟩ => ⟨S8x2, .i32⟩
  | .hbm, ⟨6, _⟩ => ⟨S5x5, .f32⟩
  | .hbm, ⟨7, _⟩ => ⟨S5x5, .f32⟩
  | .hbm, ⟨8, _⟩ => ⟨S16x1x512x512, .f32⟩
  | .hbm, ⟨9, _⟩ => ⟨S16x2x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x2x512x512, .f32⟩
  | .local _ .vmem, ⟨5, _⟩ => ⟨S1x2x512x512, .f32⟩
  | .local _ .vmem, ⟨6, _⟩ => ⟨S16x512x512, .f32⟩
  | .local _ .smem, ⟨0, _⟩ => ⟨S5x5, .f32⟩
  | .local _ .smem, ⟨1, _⟩ => ⟨S5x5, .f32⟩
  | .local _ .smem, ⟨2, _⟩ => ⟨S1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg1_0 : Ref sig .tc := ⟨.smem, 0, rfl⟩
abbrev cc0_stg2_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v26 : Index := Scalar.indexCast arg1
  let c0_5 : Index := 0#32
  let c0_6 : Index := 0#32
  ![v26.toNat, 0, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let v6 : Index := Scalar.indexCast arg1
  let c0 : Index := 0#32
  let c0_2 : Index := 0#32
  ![v6.toNat, 0, 0]
def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c15_i32 : BitVec 32 := 15#32
  let v2 : BitVec 32 := Scalar.muli c15_i32 arg0
  let v3 : BitVec 32 := Scalar.addi v1 v2
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S5x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x3x512x512 : Shape := ⟨4, ![16, 3, 512, 512]⟩
abbrev S1x1x5x5 : Shape := ⟨4, ![1, 1, 5, 5]⟩
abbrev S8x1x3x3 : Shape := ⟨4, ![8, 1, 3, 3]⟩
abbrev S1x1x3x3 : Shape := ⟨4, ![1, 1, 3, 3]⟩
abbrev S8x2 : Shape := ⟨2, ![8, 2]⟩
abbrev S_ : Shape := ⟨0, ![]⟩
abbrev S16x512x512 : Shape := ⟨3, ![16, 512, 512]⟩
abbrev S16x1x512x512 : Shape := ⟨4, ![16, 1, 512, 512]⟩
abbrev S16x1x1x512 : Shape := ⟨4, ![16, 1, 1, 512]⟩
abbrev S16x1x2x512 : Shape := ⟨4, ![16, 1, 2, 512]⟩
abbrev S16x1x514x512 : Shape := ⟨4, ![16, 1, 514, 512]⟩
abbrev S16x1x516x512 : Shape := ⟨4, ![16, 1, 516, 512]⟩
abbrev S16x1x516x1 : Shape := ⟨4, ![16, 1, 516, 1]⟩
abbrev S16x1x516x2 : Shape := ⟨4, ![16, 1, 516, 2]⟩
abbrev S16x1x516x514 : Shape := ⟨4, ![16, 1, 516, 514]⟩
abbrev S16x1x516x516 : Shape := ⟨4, ![16, 1, 516, 516]⟩
abbrev S16x5x516x512 : Shape := ⟨4, ![16, 5, 516, 512]⟩
abbrev S16x5x512x512 : Shape := ⟨4, ![16, 5, 512, 512]⟩
abbrev S16x25x512x512 : Shape := ⟨4, ![16, 25, 512, 512]⟩
abbrev S1x25x1x1 : Shape := ⟨4, ![1, 25, 1, 1]⟩
abbrev S16x1x514x514 : Shape := ⟨4, ![16, 1, 514, 514]⟩
abbrev S1x8x9x1x1 : Shape := ⟨5, ![1, 8, 9, 1, 1]⟩
abbrev S16x3x514x512 : Shape := ⟨4, ![16, 3, 514, 512]⟩
abbrev S16x9x512x512 : Shape := ⟨4, ![16, 9, 512, 512]⟩
abbrev S16x1x9x512x512 : Shape := ⟨5, ![16, 1, 9, 512, 512]⟩
abbrev S16x8x9x512x512 : Shape := ⟨5, ![16, 8, 9, 512, 512]⟩
abbrev S16x8x512x512 : Shape := ⟨4, ![16, 8, 512, 512]⟩
abbrev S16x1x512x512x1 : Shape := ⟨5, ![16, 1, 512, 512, 1]⟩
abbrev S16x1x512x512x2 : Shape := ⟨5, ![16, 1, 512, 512, 2]⟩
abbrev S16x512x512x2 : Shape := ⟨4, ![16, 512, 512, 2]⟩
abbrev S16x2x512x512 : Shape := ⟨4, ![16, 2, 512, 512]⟩
abbrev S16x2x512x512x1 : Shape := ⟨5, ![16, 2, 512, 512, 1]⟩
abbrev S1 : Shape := ⟨1, ![1]⟩
abbrev S1x1x1x1x1 : Shape := ⟨5, ![1, 1, 1, 1, 1]⟩
abbrev S16x1x513x512 : Shape := ⟨4, ![16, 1, 513, 512]⟩
abbrev S16x1x514x1 : Shape := ⟨4, ![16, 1, 514, 1]⟩
abbrev S16x1x514x513 : Shape := ⟨4, ![16, 1, 514, 513]⟩
abbrev S1x9x1x1 : Shape := ⟨4, ![1, 9, 1, 1]⟩

abbrev nBuf : Space → Nat
  | .hbm => 230
  | .vmem => 0
  | .smem => 0
  | _ => 0

abbrev hbmTy0_0 (i : Nat) : BufTy := match i % 128 with
  | 0 => ⟨S16x3x512x512, .f32⟩
  | 1 => ⟨S1x1x5x5, .f32⟩
  | 2 => ⟨S1x1x5x5, .f32⟩
  | 3 => ⟨S8x1x3x3, .f32⟩
  | 4 => ⟨S1x1x3x3, .f32⟩
  | 5 => ⟨S8x2, .i32⟩
  | 6 => ⟨S_, .f32⟩
  | 7 => ⟨S_, .f32⟩
  | 8 => ⟨S_, .f32⟩
  | 9 => ⟨S_, .i1⟩
  | 10 => ⟨S_, .f32⟩
  | 11 => ⟨S16x3x512x512, .f32⟩
  | 12 => ⟨S16x3x512x512, .f32⟩
  | 13 => ⟨S_, .f32⟩
  | 14 => ⟨S16x3x512x512, .f32⟩
  | 15 => ⟨S16x3x512x512, .f32⟩
  | 16 => ⟨S16x3x512x512, .f32⟩
  | 17 => ⟨S16x3x512x512, .f32⟩
  | 18 => ⟨S_, .f32⟩
  | 19 => ⟨S16x512x512, .f32⟩
  | 20 => ⟨S16x1x512x512, .f32⟩
  | 21 => ⟨S16x1x512x512, .f32⟩
  | 22 => ⟨S_, .f32⟩
  | 23 => ⟨S_, .f32⟩
  | 24 => ⟨S16x1x512x512, .f32⟩
  | 25 => ⟨S16x1x512x512, .f32⟩
  | 26 => ⟨S_, .i32⟩
  | 27 => ⟨S16x1x1x512, .f32⟩
  | 28 => ⟨S16x1x2x512, .f32⟩
  | 29 => ⟨S16x1x2x512, .f32⟩
  | 30 => ⟨S16x1x514x512, .f32⟩
  | 31 => ⟨S16x1x1x512, .f32⟩
  | 32 => ⟨S16x1x2x512, .f32⟩
  | 33 => ⟨S16x1x2x512, .f32⟩
  | 34 => ⟨S16x1x516x512, .f32⟩
  | 35 => ⟨S16x1x516x1, .f32⟩
  | 36 => ⟨S16x1x516x2, .f32⟩
  | 37 => ⟨S16x1x516x2, .f32⟩
  | 38 => ⟨S16x1x516x514, .f32⟩
  | 39 => ⟨S16x1x516x1, .f32⟩
  | 40 => ⟨S16x1x516x2, .f32⟩
  | 41 => ⟨S16x1x516x2, .f32⟩
  | 42 => ⟨S16x1x516x516, .f32⟩
  | 43 => ⟨S16x1x516x512, .f32⟩
  | 44 => ⟨S16x1x516x512, .f32⟩
  | 45 => ⟨S16x1x516x512, .f32⟩
  | 46 => ⟨S16x1x516x512, .f32⟩
  | 47 => ⟨S16x1x516x512, .f32⟩
  | 48 => ⟨S16x5x516x512, .f32⟩
  | 49 => ⟨S16x5x512x512, .f32⟩
  | 50 => ⟨S16x5x512x512, .f32⟩
  | 51 => ⟨S16x5x512x512, .f32⟩
  | 52 => ⟨S16x5x512x512, .f32⟩
  | 53 => ⟨S16x5x512x512, .f32⟩
  | 54 => ⟨S16x25x512x512, .f32⟩
  | 55 => ⟨S1x25x1x1, .f32⟩
  | 56 => ⟨S16x25x512x512, .f32⟩
  | 57 => ⟨S16x25x512x512, .f32⟩
  | 58 => ⟨S_, .f32⟩
  | 59 => ⟨S16x512x512, .f32⟩
  | 60 => ⟨S16x1x512x512, .f32⟩
  | 61 => ⟨S1x25x1x1, .f32⟩
  | 62 => ⟨S16x25x512x512, .f32⟩
  | 63 => ⟨S16x25x512x512, .f32⟩
  | 64 => ⟨S_, .f32⟩
  | 65 => ⟨S16x512x512, .f32⟩
  | 66 => ⟨S16x1x512x512, .f32⟩
  | 67 => ⟨S16x1x512x512, .f32⟩
  | 68 => ⟨S16x1x512x512, .f32⟩
  | 69 => ⟨S16x1x512x512, .f32⟩
  | 70 => ⟨S16x1x512x512, .f32⟩
  | 71 => ⟨S_, .f32⟩
  | 72 => ⟨S16x1x512x512, .f32⟩
  | 73 => ⟨S16x1x512x512, .f32⟩
  | 74 => ⟨S16x1x512x512, .f32⟩
  | 75 => ⟨S_, .f32⟩
  | 76 => ⟨S16x1x512x512, .f32⟩
  | 77 => ⟨S16x1x512x512, .f32⟩
  | 78 => ⟨S16x1x512x512, .f32⟩
  | 79 => ⟨S_, .f32⟩
  | 80 => ⟨S16x1x512x512, .f32⟩
  | 81 => ⟨S16x1x512x512, .f32⟩
  | 82 => ⟨S_, .f32⟩
  | 83 => ⟨S_, .f32⟩
  | 84 => ⟨S16x1x512x512, .f32⟩
  | 85 => ⟨S16x1x512x512, .f32⟩
  | 86 => ⟨S_, .f32⟩
  | 87 => ⟨S16x1x512x512, .f32⟩
  | 88 => ⟨S16x1x512x512, .i1⟩
  | 89 => ⟨S_, .f32⟩
  | 90 => ⟨S16x1x512x512, .f32⟩
  | 91 => ⟨S16x1x512x512, .i1⟩
  | 92 => ⟨S_, .f32⟩
  | 93 => ⟨S_, .i1⟩
  | 94 => ⟨S16x1x512x512, .i1⟩
  | 95 => ⟨S16x1x512x512, .i1⟩
  | 96 => ⟨S16x1x512x512, .i1⟩
  | 97 => ⟨S16x1x512x512, .f32⟩
  | 98 => ⟨S16x1x512x512, .f32⟩
  | 99 => ⟨S16x1x512x512, .f32⟩
  | 100 => ⟨S16x1x512x512, .i32⟩
  | 101 => ⟨S_, .i32⟩
  | 102 => ⟨S_, .f32⟩
  | 103 => ⟨S16x1x514x514, .f32⟩
  | 104 => ⟨S1x8x9x1x1, .f32⟩
  | 105 => ⟨S16x1x514x512, .f32⟩
  | 106 => ⟨S16x1x514x512, .f32⟩
  | 107 => ⟨S16x1x514x512, .f32⟩
  | 108 => ⟨S16x3x514x512, .f32⟩
  | 109 => ⟨S16x3x512x512, .f32⟩
  | 110 => ⟨S16x3x512x512, .f32⟩
  | 111 => ⟨S16x3x512x512, .f32⟩
  | 112 => ⟨S16x9x512x512, .f32⟩
  | 113 => ⟨S16x1x9x512x512, .f32⟩
  | 114 => ⟨S16x8x9x512x512, .f32⟩
  | 115 => ⟨S16x8x9x512x512, .f32⟩
  | 116 => ⟨S16x8x9x512x512, .f32⟩
  | 117 => ⟨S_, .f32⟩
  | 118 => ⟨S16x8x512x512, .f32⟩
  | 119 => ⟨S_, .i32⟩
  | 120 => ⟨S16x1x512x512, .i32⟩
  | 121 => ⟨S16x1x512x512, .i1⟩
  | 122 => ⟨S_, .i32⟩
  | 123 => ⟨S16x1x512x512, .i32⟩
  | 124 => ⟨S16x1x512x512, .i32⟩
  | 125 => ⟨S16x1x512x512, .i32⟩
  | 126 => ⟨S16x1x512x512x1, .i32⟩
  | 127 => ⟨S16x1x512x512x2, .i32⟩
  | _ => ⟨S16x3x512x512, .f32⟩

abbrev hbmTy0_1 (i : Nat) : BufTy := match i % 128 with
  | 0 => ⟨S16x512x512x2, .i32⟩
  | 1 => ⟨S16x2x512x512, .i32⟩
  | 2 => ⟨S_, .i32⟩
  | 3 => ⟨S16x2x512x512, .i32⟩
  | 4 => ⟨S16x2x512x512, .i1⟩
  | 5 => ⟨S_, .i32⟩
  | 6 => ⟨S16x2x512x512, .i32⟩
  | 7 => ⟨S16x2x512x512, .i32⟩
  | 8 => ⟨S16x2x512x512, .i32⟩
  | 9 => ⟨S16x2x512x512x1, .i32⟩
  | 10 => ⟨S1, .i32⟩
  | 11 => ⟨S_, .i32⟩
  | 12 => ⟨S16x2x512x512x1, .i32⟩
  | 13 => ⟨S16x2x512x512x1, .i1⟩
  | 14 => ⟨S1x1x1x1x1, .i32⟩
  | 15 => ⟨S16x2x512x512x1, .i32⟩
  | 16 => ⟨S16x2x512x512x1, .i1⟩
  | 17 => ⟨S16x2x512x512x1, .i1⟩
  | 18 => ⟨S_, .i1⟩
  | 19 => ⟨S16x2x512x512, .i1⟩
  | 20 => ⟨S16x2x512x512, .f32⟩
  | 21 => ⟨S_, .f32⟩
  | 22 => ⟨S16x2x512x512, .f32⟩
  | 23 => ⟨S16x2x512x512, .f32⟩
  | 24 => ⟨S16x1x512x512, .f32⟩
  | 25 => ⟨S16x1x512x512, .i1⟩
  | 26 => ⟨S16x1x512x512, .f32⟩
  | 27 => ⟨S16x1x512x512, .i1⟩
  | 28 => ⟨S16x1x512x512, .i1⟩
  | 29 => ⟨S_, .f32⟩
  | 30 => ⟨S_, .f32⟩
  | 31 => ⟨S16x1x512x512, .f32⟩
  | 32 => ⟨S16x1x512x512, .f32⟩
  | 33 => ⟨S_, .f32⟩
  | 34 => ⟨S16x1x512x512, .f32⟩
  | 35 => ⟨S16x1x512x512, .i1⟩
  | 36 => ⟨S_, .f32⟩
  | 37 => ⟨S_, .f32⟩
  | 38 => ⟨S16x1x512x512, .f32⟩
  | 39 => ⟨S16x1x512x512, .f32⟩
  | 40 => ⟨S_, .f32⟩
  | 41 => ⟨S16x1x512x512, .f32⟩
  | 42 => ⟨S16x1x512x512, .i1⟩
  | 43 => ⟨S_, .f32⟩
  | 44 => ⟨S16x1x512x512, .f32⟩
  | 45 => ⟨S16x1x512x512, .i1⟩
  | 46 => ⟨S16x1x512x512, .i1⟩
  | 47 => ⟨S_, .f32⟩
  | 48 => ⟨S16x1x512x512, .f32⟩
  | 49 => ⟨S16x1x512x512, .i1⟩
  | 50 => ⟨S16x1x512x512, .f32⟩
  | 51 => ⟨S_, .i32⟩
  | 52 => ⟨S16x1x1x512, .f32⟩
  | 53 => ⟨S16x1x1x512, .f32⟩
  | 54 => ⟨S16x1x1x512, .f32⟩
  | 55 => ⟨S16x1x513x512, .f32⟩
  | 56 => ⟨S16x1x1x512, .f32⟩
  | 57 => ⟨S16x1x1x512, .f32⟩
  | 58 => ⟨S16x1x1x512, .f32⟩
  | 59 => ⟨S16x1x514x512, .f32⟩
  | 60 => ⟨S16x1x514x1, .f32⟩
  | 61 => ⟨S16x1x514x1, .f32⟩
  | 62 => ⟨S16x1x514x1, .f32⟩
  | 63 => ⟨S16x1x514x513, .f32⟩
  | 64 => ⟨S16x1x514x1, .f32⟩
  | 65 => ⟨S16x1x514x1, .f32⟩
  | 66 => ⟨S16x1x514x1, .f32⟩
  | 67 => ⟨S16x1x514x514, .f32⟩
  | 68 => ⟨S16x1x514x512, .f32⟩
  | 69 => ⟨S16x1x514x512, .f32⟩
  | 70 => ⟨S16x1x514x512, .f32⟩
  | 71 => ⟨S16x3x514x512, .f32⟩
  | 72 => ⟨S16x3x512x512, .f32⟩
  | 73 => ⟨S16x3x512x512, .f32⟩
  | 74 => ⟨S16x3x512x512, .f32⟩
  | 75 => ⟨S16x9x512x512, .f32⟩
  | 76 => ⟨S1x9x1x1, .f32⟩
  | 77 => ⟨S16x9x512x512, .f32⟩
  | 78 => ⟨S16x9x512x512, .f32⟩
  | 79 => ⟨S_, .f32⟩
  | 80 => ⟨S16x512x512, .f32⟩
  | 81 => ⟨S16x1x512x512, .f32⟩
  | 82 => ⟨S_, .f32⟩
  | 83 => ⟨S16x1x512x512, .f32⟩
  | 84 => ⟨S16x1x512x512, .i1⟩
  | 85 => ⟨S16x1x512x512, .i1⟩
  | 86 => ⟨S16x1x512x512, .i1⟩
  | 87 => ⟨S16x1x512x512, .i1⟩
  | 88 => ⟨S16x1x512x512, .i1⟩
  | 89 => ⟨S_, .f32⟩
  | 90 => ⟨S_, .f32⟩
  | 91 => ⟨S16x1x512x512, .f32⟩
  | 92 => ⟨S16x1x512x512, .f32⟩
  | 93 => ⟨S16x2x512x512, .f32⟩
  | 94 => ⟨S_, .f32⟩
  | 95 => ⟨S16x1x512x512, .f32⟩
  | 96 => ⟨S16x1x512x512, .i1⟩
  | 97 => ⟨S_, .f32⟩
  | 98 => ⟨S_, .f32⟩
  | 99 => ⟨S16x1x512x512, .f32⟩
  | 100 => ⟨S16x1x512x512, .f32⟩
  | 101 => ⟨S16x1x512x512, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_cst_10 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_cst : Ref sig .tc := ⟨.hbm, 86, rfl⟩
abbrev main_call3_v3 : Ref sig .tc := ⟨.hbm, 87, rfl⟩
abbrev main_call3_v4 : Ref sig .tc := ⟨.hbm, 88, rfl⟩
abbrev main_call3_cst_0 : Ref sig .tc := ⟨.hbm, 89, rfl⟩
abbrev main_call3_v5 : Ref sig .tc := ⟨.hbm, 90, rfl⟩
abbrev main_call3_v6 : Ref sig .tc := ⟨.hbm, 91, rfl⟩
abbrev main_call3_cst_1 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_v12 : Ref sig .tc := ⟨.hbm, 98, rfl⟩
abbrev main_v49 : Ref sig .tc := ⟨.hbm, 99, rfl⟩
abbrev main_v50 : Ref sig .tc := ⟨.hbm, 100, rfl⟩
abbrev main_c_11 : Ref sig .tc := ⟨.hbm, 101, rfl⟩
abbrev main_call4_v0 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_12 : Ref sig .tc := ⟨.hbm, 117, rfl⟩
abbrev main_v65 : Ref sig .tc := ⟨.hbm, 118, rfl⟩
abbrev main_c_13 : Ref sig .tc := ⟨.hbm, 119, rfl⟩
abbrev main_v66 : Ref sig .tc := ⟨.hbm, 120, rfl⟩
abbrev main_v67 : Ref sig .tc := ⟨.hbm, 121, rfl⟩
abbrev main_c_14 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_call5_c : Ref sig .tc := ⟨.hbm, 130, rfl⟩
abbrev main_call5_v0 : Ref sig .tc := ⟨.hbm, 131, rfl⟩
abbrev main_call5_v1 : Ref sig .tc := ⟨.hbm, 132, rfl⟩
abbrev main_call5_c_0 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_c_1 : Ref sig .tc := ⟨.hbm, 138, rfl⟩
abbrev main_call5_c_2 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_3 : Ref sig .tc := ⟨.hbm, 146, rfl⟩
abbrev main_call5_v12 : Ref sig .tc := ⟨.hbm, 147, rfl⟩
abbrev main_call5_v13 : Ref sig .tc := ⟨.hbm, 148, rfl⟩
abbrev main_call5_cst : Ref sig .tc := ⟨.hbm, 149, rfl⟩
abbrev main_call5_v14 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_cst_15 : Ref sig .tc := ⟨.hbm, 157, rfl⟩
abbrev main_call6_v0 : Ref sig .tc := ⟨.hbm, 158, rfl⟩
abbrev main_call6_v1 : Ref sig .tc := ⟨.hbm, 159, rfl⟩
abbrev main_v81 : Ref sig .tc := ⟨.hbm, 160, rfl⟩
abbrev main_cst_16 : Ref sig .tc := ⟨.hbm, 161, rfl⟩
abbrev main_v82 : Ref sig .tc := ⟨.hbm, 162, rfl⟩
abbrev main_v83 : Ref sig .tc := ⟨.hbm, 163, rfl⟩
abbrev main_cst_17 : Ref sig .tc := ⟨.hbm, 164, rfl⟩
abbrev main_call7_v0 : Ref sig .tc := ⟨.hbm, 165, rfl⟩
abbrev main_call7_v1 : Ref sig .tc := ⟨.hbm, 166, rfl⟩
abbrev main_v84 : Ref sig .tc := ⟨.hbm, 167, rfl⟩
abbrev main_cst_18 : Ref sig .tc := ⟨.hbm, 168, rfl⟩
abbrev main_v85 : Ref sig .tc := ⟨.hbm, 169, rfl⟩
abbrev main_v86 : Ref sig .tc := ⟨.hbm, 170, rfl⟩
abbrev main_cst_19 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_cst_20 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_c_21 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_call8_v3 : Ref sig .tc := ⟨.hbm, 183, rfl⟩
abbrev main_call8_v4 : Ref sig .tc := ⟨.hbm, 184, rfl⟩
abbrev main_call8_v5 : Ref sig .tc := ⟨.hbm, 185, rfl⟩
abbrev main_call8_v6 : Ref sig .tc := ⟨.hbm, 186, rfl⟩
abbrev main_call8_v7 : Ref sig .tc := ⟨.hbm, 187, rfl⟩
abbrev main_call8_v8 : Ref sig .tc := ⟨.hbm, 188, rfl⟩
abbrev main_call8_v9 : Ref sig .tc := ⟨.hbm, 189, rfl⟩
abbrev main_call8_v10 : Ref sig .tc := ⟨.hbm, 190, rfl⟩
abbrev main_call8_v11 : Ref sig .tc := ⟨.hbm, 191, rfl⟩
abbrev main_call8_v12 : Ref sig .tc := ⟨.hbm, 192, rfl⟩
abbrev main_call8_v13 : Ref sig .tc := ⟨.hbm, 193, rfl⟩
abbrev main_call8_v14 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_cst_22 : Ref sig .tc := ⟨.hbm, 207, rfl⟩
abbrev main_v105 : Ref sig .tc := ⟨.hbm, 208, rfl⟩
abbrev main_v106 : Ref sig .tc := ⟨.hbm, 209, rfl⟩
abbrev main_cst_23 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_cst_24 : Ref sig .tc := ⟨.hbm, 217, rfl⟩
abbrev main_call9_v0 : Ref sig .tc := ⟨.hbm, 218, rfl⟩
abbrev main_call9_v1 : Ref sig .tc := ⟨.hbm, 219, rfl⟩
abbrev main_v113 : Ref sig .tc := ⟨.hbm, 220, rfl⟩
abbrev main_v114 : Ref sig .tc := ⟨.hbm, 221, rfl⟩
abbrev main_cst_25 : Ref sig .tc := ⟨.hbm, 222, rfl⟩
abbrev main_v115 : Ref sig .tc := ⟨.hbm, 223, rfl⟩
abbrev main_v116 : Ref sig .tc := ⟨.hbm, 224, rfl⟩
abbrev main_cst_26 : Ref sig .tc := ⟨.hbm, 225, rfl⟩
abbrev main_cst_27 : Ref sig .tc := ⟨.hbm, 226, rfl⟩
abbrev main_call10_v0 : Ref sig .tc := ⟨.hbm, 227, rfl⟩
abbrev main_call10_v1 : Ref sig .tc := ⟨.hbm, 228, rfl⟩
abbrev main_v117 : Ref sig .tc := ⟨.hbm, 229, rfl⟩

abbrev nD : Nat := 1
abbrev τ : Topo := Topo.v7x

variable {F : FTy → Type} [FloatOps F]
-- ==== Proof.Body.lean ====
/- The kernel body of the idealized program, run once per kind of grid point: what is stored where. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem numel1_S1x1_pos : 0 < S1x1.numel := by rw [numel1_S1x1]; exact Nat.one_pos

/-- The block of the norm scratch a point of the second phase reads. -/
def slab (i : grid0.Coords) (h : k0_cond4 i = 1#1) (x : Vec F S16x512x512 .f32) : Vec F S1x512x512 .f32 :=
  fun y => x ((Rect.unit (s := S16x512x512) (k0_off2 i) S1x512x512.size (k0_off2_inb i h)).toLoadRect.idx y)

/-- One weight, as the body loads it. -/
def tap (x : Vec F S5x5 .f32) (off : Fin 2 → ℕ) (inb : ∀ a, off a + S1x1.size a ≤ S5x5.size a) : Elt F .f32 :=
  x ((Rect.unit (s := S5x5) off S1x1.size inb).toLoadRect.idx (Shape.Idx.first numel1_S1x1_pos))

/-- The one cell of the running-maximum scratch, as the body loads it. -/
def top (x : Vec F S1x1 .f32) : Elt F .f32 :=
  x ((Rect.unit (s := S1x1) ![0, 0] S1x1.size inb_S1x1_S1x1_0_0).toLoadRect.idx (Shape.Idx.first numel1_S1x1_pos))

section Phase1
variable (L : Vec F S1x512x512 .f32) (g : Elt F .f32) (x1 x2 : Vec F S5x5 .f32)

/-- The horizontal passes of the x filter (three rows) and of the y filter (two rows), over the row-padded image. -/
def hx0 : FVec F S516x512 .f32 := k0_pay17 L g (tap x1 ![0, 0] inb_S5x5_S1x1_0_0) (tap x1 ![0, 1] inb_S5x5_S1x1_0_1)
def hx1 : FVec F S516x512 .f32 := k0_pay19 (k0_pay14 L g) (k0_pay18 L g (tap x1 ![1, 0] inb_S5x5_S1x1_1_0)) (tap x1 ![1, 1] inb_S5x5_S1x1_1_1)
def hx2 : FVec F S516x512 .f32 := k0_pay20 (k0_pay13 L g) (k0_pay14 L g) (tap x1 ![2, 0] inb_S5x5_S1x1_2_0) (tap x1 ![2, 1] inb_S5x5_S1x1_2_1)
def hy0 : FVec F S516x512 .f32 := k0_pay21 (k0_pay8 L g) (k0_pay15 L g) (k0_pay16 L g) (tap x2 ![0, 0] inb_S5x5_S1x1_0_0) (tap x2 ![0, 1] inb_S5x5_S1x1_0_1) (tap x2 ![0, 2] inb_S5x5_S1x1_0_2)
def hy1 : FVec F S516x512 .f32 := k0_pay22 (k0_pay15 L g) (k0_pay16 L g) (tap x2 ![1, 0] inb_S5x5_S1x1_1_0) (tap x2 ![1, 1] inb_S5x5_S1x1_1_1)

/-- The x response. -/
def sxK : FVec F S512x512 .f32 := k0_pay23 (hx0 L g x1) (hx1 L g x1) (hx2 L g x1)
/-- The y response. -/
def syK : FVec F S512x512 .f32 := k0_pay24 (k0_pay8 L g) (hy0 L g x2) (hy1 L g x2) (tap x2 ![1, 2] inb_S5x5_S1x1_1_2)
/-- The magnitude, as the body passes it on. -/
def nb25 : FVec F S512x512 .f32 := k0_pay25 (k0_pay8 L g) (hx0 L g x1) (hx1 L g x1) (hx2 L g x1) (hy0 L g x2) (hy1 L g x2) (tap x2 ![1, 2] inb_S5x5_S1x1_1_2)
/-- The left neighbour, as the body passes it on. -/
def nb29 : FVec F S512x512 .f32 := k0_pay29 (k0_pay8 L g) (hx0 L g x1) (hx1 L g x1) (hx2 L g x1) (hy0 L g x2) (hy1 L g x2) (tap x2 ![1, 2] inb_S5x5_S1x1_1_2)
/-- The right neighbour, as the body passes it on. -/
def nb30 : FVec F S512x512 .f32 := k0_pay30 (k0_pay8 L g) (hx0 L g x1) (hx1 L g x1) (hx2 L g x1) (hy0 L g x2) (hy1 L g x2) (tap x2 ![1, 2] inb_S5x5_S1x1_1_2)
/-- The upper neighbour, as the body passes it on. -/
def nb31 : FVec F S512x512 .f32 := k0_pay31 (k0_pay8 L g) (hx0 L g x1) (hx1 L g x1) (hx2 L g x1) (hy0 L g x2) (hy1 L g x2) (tap x2 ![1, 2] inb_S5x5_S1x1_1_2)
/-- The lower neighbour, as the body passes it on. -/
def nb32 : FVec F S512x512 .f32 := k0_pay32 (k0_pay8 L g) (hx0 L g x1) (hx1 L g x1) (hx2 L g x1) (hy0 L g x2) (hy1 L g x2) (tap x2 ![1, 2] inb_S5x5_S1x1_1_2)
/-- The upper left neighbour, as the body passes it on. -/
def nb33 : FVec F S512x512 .f32 := k0_pay33 (k0_pay8 L g) (hx0 L g x1) (hx1 L g x1) (hx2 L g x1) (hy0 L g x2) (hy1 L g x2) (tap x2 ![1, 2] inb_S5x5_S1x1_1_2)
/-- The lower left neighbour, as the body passes it on. -/
def nb34 : FVec F S512x512 .f32 := k0_pay34 (k0_pay8 L g) (hx0 L g x1) (hx1 L g x1) (hx2 L g x1) (hy0 L g x2) (hy1 L g x2) (tap x2 ![1, 2] inb_S5x5_S1x1_1_2)
/-- The upper right neighbour, as the body passes it on. -/
def nb35 : FVec F S512x512 .f32 := k0_pay35 (k0_pay8 L g) (hx0 L g x1) (hx1 L g x1) (hx2 L g x1) (hy0 L g x2) (hy1 L g x2) (tap x2 ![1, 2] inb_S5x5_S1x1_1_2)
/-- The lower right neighbour, as the body passes it on. -/
def nb36 : FVec F S512x512 .f32 := k0_pay36 (k0_pay8 L g) (hx0 L g x1) (hx1 L g x1) (hx2 L g x1) (hy0 L g x2) (hy1 L g x2) (tap x2 ![1, 2] inb_S5x5_S1x1_1_2)
/-- The first sector's test, as the body passes it on. -/
def nb40 : IVec S512x512 1 := k0_pay40 (k0_pay8 L g) (hx0 L g x1) (hx1 L g x1) (hx2 L g x1) (hy0 L g x2) (hy1 L g x2) (tap x2 ![1, 2] inb_S5x5_S1x1_1_2)
/-- The edge block. -/
def edgeK : FVec F S1x1x512x512 .f32 :=
  k0_pay5 (sxK L g x1) (nb25 L g x1 x2) (nb29 L g x1 x2) (nb30 L g x1 x2) (nb31 L g x1 x2) (nb32 L g x1 x2) (nb33 L g x1 x2)
    (nb34 L g x1 x2) (nb35 L g x1 x2) (nb36 L g x1 x2) (k0_pay37 (k0_pay8 L g) (hy0 L g x2) (hy1 L g x2) (tap x2 ![1, 2] inb_S5x5_S1x1_1_2))
    (k0_pay39 (k0_pay8 L g) (hy0 L g x2) (hy1 L g x2) (tap x2 ![1, 2] inb_S5x5_S1x1_1_2)) (nb40 L g x1 x2) (k0_pay41 (hx0 L g x1) (hx1 L g x1) (hx2 L g x1))

/-- The position of an index of the two-channel block within one channel. -/
def chan (y : S1x2x512x512.Idx) : S1x1x512x512.Idx :=
  fun | 0 => ⟨(y 0).val, (y 0).isLt⟩ | 1 => ⟨0, Nat.one_pos⟩ | 2 => ⟨(y 2).val, (y 2).isLt⟩ | 3 => ⟨(y 3).val, (y 3).isLt⟩

/-- The two-channel block: the y response, then the x response. -/
def sobelK : FVec F S1x2x512x512 .f32 :=
  fun y => if (y 1).val = 1 then k0_pay7 (sxK L g x1) (chan y) else k0_pay6 (syK L g x2) (chan y)

end Phase1

/-- A load of a view's own sizes reads all of it. -/
theorem x0_full (v : View sig .tc .vmem S1x3x512x512 .f32) (f : v.ty.Contents (Elt F)) :
    v.readAt (Elt F) (Rect.unit (s := S1x3x512x512) ![0, 0, 0, 0] S1x3x512x512.size inb_S1x3x512x512_S1x3x512x512_0_0_0_0).toLoadRect f = v.read (Elt F) f :=
  View.readAt_full _ _ _

/-- The two stores of the two-channel block, read back: channel 1 the later one's, channel 0 the earlier one's. -/
theorem sobel_read (v : View sig .tc .vmem S1x2x512x512 .f32) (f : v.ty.Contents (Elt F)) (p q : FVec F S1x1x512x512 .f32) :
    v.read (Elt F) (v.writes (Elt F) f [⟨Rect.unit (s := S1x2x512x512) ![0, 1, 0, 0] S1x1x512x512.size inb_S1x2x512x512_S1x1x512x512_0_1_0_0, p⟩,
      ⟨Rect.unit (s := S1x2x512x512) ![0, 0, 0, 0] S1x1x512x512.size inb_S1x2x512x512_S1x1x512x512_0_0_0_0, q⟩])
      = fun y => if (y 1).val = 1 then p (chan y) else q (chan y) := by
  funext y
  have h1 : (y 1).val < 2 := (y 1).isLt
  split
  · next h =>
    refine View.read_writes_cons_unit_of_mem (off := ![0, 1, 0, 0]) (size := S1x1x512x512.size) v f _ p _ y (chan y) rfl fun a => ?_
    match a with
    | 0 => exact (Nat.zero_add _).symm
    | 1 => exact h
    | 2 => exact (Nat.zero_add _).symm
    | 3 => exact (Nat.zero_add _).symm
  · next h =>
    refine (View.read_writes_cons_unit_of_not_mem _ _ _ _ _ _ rfl 1 (Or.inl (by show (y 1).val < 1; omega))).trans ?_
    refine View.read_writes_cons_unit_of_mem (off := ![0, 0, 0, 0]) (size := S1x1x512x512.size) v f _ q _ y (chan y) rfl fun a => ?_
    match a with
    | 0 => exact (Nat.zero_add _).symm
    | 1 => show (y 1).val = 0 + 0; omega
    | 2 => exact (Nat.zero_add _).symm
    | 3 => exact (Nat.zero_add _).symm

/-- At the first point the norm goes into its slab and its maximum into the cell. -/
theorem runA (c : Dev nD) (i : grid0.Coords) (arg2 : Memref sig .tc .vmem S1x3x512x512 .f32) (harg2 : arg2.IsWhole) (arg3 : Memref sig .tc .smem S5x5 .f32) (harg3 : arg3.IsWhole) (arg4 : Memref sig .tc .smem S5x5 .f32) (harg4 : arg4.IsWhole) (arg5 : Memref sig .tc .vmem S1x1x512x512 .f32) (harg5 : arg5.IsWhole) (arg6 : Memref sig .tc .vmem S1x2x512x512 .f32) (harg6 : arg6.IsWhole) (arg7 : Memref sig .tc .vmem S16x512x512 .f32) (harg7 : arg7.IsWhole) (arg8 : Memref sig .tc .smem S1x1 .f32) (harg8 : arg8.IsWhole) (hc0 : k0_cond1 i = 1#1) (hc1 : (Scalar.cmpi .ne (Scalar.extui (Scalar.cmpi .eq (BitVec.ofNat 32 (i 1).val) 0#32)) 0#32) = 1#1) (hc2 : ¬ (Scalar.cmpi .ne (Scalar.extui (Scalar.cmpi .ne (BitVec.ofNat 32 (i 1).val) 0#32)) 0#32) = 1#1) (hc3 : ¬ k0_cond4 i = 1#1)
    (x0 : Vec F S1x3x512x512 .f32) (x1 x2 : Vec F S5x5 .f32) (x3 : Vec F S1x1x512x512 .f32) (x4 : Vec F S1x2x512x512 .f32) (xs0 : Vec F S16x512x512 .f32) (xs1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (VecWindow.put xs0 (k0_off1 i) S1x512x512.size (k0_pay2 x0)) ∗ owns (c : Thread nD τ) arg8 fullShare (fun _ => k0_pay3 x0)) -∗ K ⟨⟩))
      ⊢ wp frame (wpE (defs₀ (F := F)) Variants.none c none) E (cc0__canny_kernel i arg2 harg2 arg3 harg3 arg4 harg4 arg5 harg5 arg6 harg6 arg7 harg7 arg8 harg8) K := by
  simp only [cc0__canny_kernel_eq_skeleton]; unfold cc0__canny_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0 hf1 hf2 hf3 hf4 hfs0 hfs1
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [HS0]
  · iexists _; isplitr; swap; · iexact HS0
    ipureintro; refine (View.read_writes_cons_put _ _ _ _ _ rfl).trans ?_; rw [x0_full]; rfl
  iexists _; isplitr; swap; · iexact HS1
  ipureintro; refine (View.read_writes_full _ _ _ _ _).trans ?_; rw [x0_full]; rfl

/-- At a later point of the first phase the norm goes into its slab and the cell becomes the larger of itself and the norm's maximum. -/
theorem runB (c : Dev nD) (i : grid0.Coords) (arg2 : Memref sig .tc .vmem S1x3x512x512 .f32) (harg2 : arg2.IsWhole) (arg3 : Memref sig .tc .smem S5x5 .f32) (harg3 : arg3.IsWhole) (arg4 : Memref sig .tc .smem S5x5 .f32) (harg4 : arg4.IsWhole) (arg5 : Memref sig .tc .vmem S1x1x512x512 .f32) (harg5 : arg5.IsWhole) (arg6 : Memref sig .tc .vmem S1x2x512x512 .f32) (harg6 : arg6.IsWhole) (arg7 : Memref sig .tc .vmem S16x512x512 .f32) (harg7 : arg7.IsWhole) (arg8 : Memref sig .tc .smem S1x1 .f32) (harg8 : arg8.IsWhole) (hc0 : k0_cond1 i = 1#1) (hc1 : ¬ (Scalar.cmpi .ne (Scalar.extui (Scalar.cmpi .eq (BitVec.ofNat 32 (i 1).val) 0#32)) 0#32) = 1#1) (hc2 : (Scalar.cmpi .ne (Scalar.extui (Scalar.cmpi .ne (BitVec.ofNat 32 (i 1).val) 0#32)) 0#32) = 1#1) (hc3 : ¬ k0_cond4 i = 1#1)
    (x0 : Vec F S1x3x512x512 .f32) (x1 x2 : Vec F S5x5 .f32) (x3 : Vec F S1x1x512x512 .f32) (x4 : Vec F S1x2x512x512 .f32) (xs0 : Vec F S16x512x512 .f32) (xs1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (VecWindow.put xs0 (k0_off1 i) S1x512x512.size (k0_pay2 x0)) ∗ owns (c : Thread nD τ) arg8 fullShare (fun _ => k0_pay4 x0 (top xs1))) -∗ K ⟨⟩))
      ⊢ wp frame (wpE (defs₀ (F := F)) Variants.none c none) E (cc0__canny_kernel i arg2 harg2 arg3 harg3 arg4 harg4 arg5 harg5 arg6 harg6 arg7 harg7 arg8 harg8) K := by
  simp only [cc0__canny_kernel_eq_skeleton]; unfold cc0__canny_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0 hf1 hf2 hf3 hf4 hfs0 hfs1
  sl_exec (disch := first | sl_exact hc0 | sl_exact hc1 | sl_exact hc2 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [HS0]
  · iexists _; isplitr; swap; · iexact HS0
    ipureintro; refine (View.read_writes_cons_put _ _ _ _ _ rfl).trans ?_; rw [x0_full]; rfl
  iexists _; isplitr; swap; · iexact HS1
  ipureintro; refine (View.read_writes_full _ _ _ _ _).trans ?_; rw [x0_full]; rfl

/-- At a point of the second phase the two output blocks are stored, from the point's slab, the cell and the weights. -/
theorem runC (c : Dev nD) (i : grid0.Coords) (arg2 : Memref sig .tc .vmem S1x3x512x512 .f32) (harg2 : arg2.IsWhole) (arg3 : Memref sig .tc .smem S5x5 .f32) (harg3 : arg3.IsWhole) (arg4 : Memref sig .tc .smem S5x5 .f32) (harg4 : arg4.IsWhole) (arg5 : Memref sig .tc .vmem S1x1x512x512 .f32) (harg5 : arg5.IsWhole) (arg6 : Memref sig .tc .vmem S1x2x512x512 .f32) (harg6 : arg6.IsWhole) (arg7 : Memref sig .tc .vmem S16x512x512 .f32) (harg7 : arg7.IsWhole) (arg8 : Memref sig .tc .smem S1x1 .f32) (harg8 : arg8.IsWhole) (hc0 : ¬ k0_cond1 i = 1#1) (hc3 : k0_cond4 i = 1#1)
    (x0 : Vec F S1x3x512x512 .f32) (x1 x2 : Vec F S5x5 .f32) (x3 : Vec F S1x1x512x512 .f32) (x4 : Vec F S1x2x512x512 .f32) (xs0 : Vec F S16x512x512 .f32) (xs1 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2 ∗ owns (c : Thread nD τ) arg5 fullShare (edgeK (slab i hc3 xs0) (top xs1) x1 x2) ∗ owns (c : Thread nD τ) arg6 fullShare (sobelK (slab i hc3 xs0) (top xs1) x1 x2) ∗ owns (c : Thread nD τ) arg7 fullShare xs0 ∗ owns (c : Thread nD τ) arg8 fullShare xs1) -∗ K ⟨⟩))
      ⊢ wp frame (wpE (defs₀ (F := F)) Variants.none c none) E (cc0__canny_kernel i arg2 harg2 arg3 harg3 arg4 harg4 arg5 harg5 arg6 harg6 arg7 harg7 arg8 harg8) K := by
  simp only [cc0__canny_kernel_eq_skeleton]; unfold cc0__canny_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0 hf1 hf2 hf3 hf4 hfs0 hfs1
  sl_exec (disch := first | sl_exact hc0 | sl_exact hc3)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; refine (View.read_writes_full _ _ _ _ _).trans ?_; rfl
  isplitl [H4]
  · iexists _; isplitr; swap; · iexact H4
    ipureintro; exact sobel_read _ _ _ _
  isplitl [HS0]
  · iexists _; isplitr; swap; · iexact HS0
    ipureintro; rfl
  iexists _; isplitr; swap; · iexact HS1
  ipureintro; rfl

end Cert.KernelIdeal.Hand

end
-- ==== Proof.Points.lean ====
/- The grid points of the idealized program: which kind each is, and what the two scratch buffers hold after each. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions in closed form -/

abbrev isFirst (i : grid0.Coords) : Prop := (Scalar.cmpi .ne (Scalar.extui (Scalar.cmpi .eq (BitVec.ofNat 32 (i 1).val) 0#32)) 0#32) = 1#1
abbrev isLater (i : grid0.Coords) : Prop := (Scalar.cmpi .ne (Scalar.extui (Scalar.cmpi .ne (BitVec.ofNat 32 (i 1).val) 0#32)) 0#32) = 1#1

theorem lt32 (t : Fin cfg0.N) : t.val < 32 := Nat.lt_of_lt_of_eq t.isLt N_0

/-- The phase coordinate of a point. -/
theorem coord0 (t : Fin cfg0.N) : (grid0.coords t 0).val = t.val / 16 % 2 := Pipeline.Grid.coords_val t 0 (by decide) rfl
/-- The image coordinate of a point. -/
theorem coord1 (t : Fin cfg0.N) : (grid0.coords t 1).val = t.val / 1 % 16 := Pipeline.Grid.coords_val t 1 (by decide) rfl

/-- The first phase is the first sixteen points. -/
theorem cond1_iff (t : Fin cfg0.N) : k0_cond1 (grid0.coords t) = 1#1 ↔ t.val < 16 := by
  have ht := lt32 t
  have e0 := coord0 t
  simp only [k0_cond1, e0]
  word_cmp
/-- The second phase is the rest. -/
theorem cond4_iff (t : Fin cfg0.N) : k0_cond4 (grid0.coords t) = 1#1 ↔ 16 ≤ t.val := by
  have ht := lt32 t
  have e0 := coord0 t
  simp only [k0_cond4, e0]
  word_cmp
theorem first_iff (t : Fin cfg0.N) : isFirst (grid0.coords t) ↔ t.val % 16 = 0 := by
  have ht := lt32 t
  have e1 := coord1 t
  simp only [isFirst, e1]
  word_cmp
theorem later_iff (t : Fin cfg0.N) : isLater (grid0.coords t) ↔ 1 ≤ t.val % 16 := by
  have ht := lt32 t
  have e1 := coord1 t
  simp only [isLater, e1]
  word_cmp

/-- The slab a first-phase point stores. -/
theorem off1_eq (t : Fin cfg0.N) (j : ℕ) (h : t.val % 16 = j) : k0_off1 (grid0.coords t) = ![j, 0, 0] := by
  have e1 := coord1 t
  have : (BitVec.ofNat 32 (t.val / 1 % 16)).toNat = j := by
    rw [BitVec.toNat_ofNat]; omega
  simp only [k0_off1, e1]
  show ![(BitVec.ofNat 32 (t.val / 1 % 16)).toNat, 0, 0] = _
  rw [this]
/-- The slab a second-phase point loads. -/
theorem off2_eq (t : Fin cfg0.N) (j : ℕ) (h : t.val % 16 = j) : k0_off2 (grid0.coords t) = ![j, 0, 0] := off1_eq t j h

/-! ## The staging and scratch memrefs -/

abbrev ms0 (t : Fin cfg0.N) : Memref sig .tc .vmem S1x3x512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .smem S5x5 .f32 := win0_1.stage (cfg0.slots t 1)
abbrev hs1 (t : Fin cfg0.N) : (ms1 t).IsWhole := hstage0_1 ((cfg0.slots t 1).cast nbuf0_1)
abbrev ms2 (t : Fin cfg0.N) : Memref sig .tc .smem S5x5 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2x512x512 .f32 := win0_4.stage (cfg0.slots t 4)
abbrev hs4 (t : Fin cfg0.N) : (ms4 t).IsWhole := hstage0_4 ((cfg0.slots t 4).cast nbuf0_4)
abbrev scNorm : Memref sig .tc .vmem S16x512x512 .f32 := Memref.whole cc0_scratch0
abbrev scTop : Memref sig .tc .smem S1x1 .f32 := Memref.whole cc0_scratch1

/-- What the launch hands the region beside the windows: the two scratch buffers and the generator register. -/
theorem start_eq (c : Dev nD) :
    (Pipeline.ΦA spec0 c : sProp 𝕄)
      = iprop(iprop((∃ d, owns (c : Thread nD τ) scNorm fullShare d) ∗ (∃ d, owns (c : Thread nD τ) scTop fullShare d)) ∗ (∃ r, prngReg c r)) := by
  unfold Pipeline.ΦA; rw [scopedRest0_eq]; simp only [scNorm, scTop, owns_whole]; try rfl

/-! ## What the scratch holds -/

/-- The grid point of number `n`. -/
def pt (n : ℕ) : Fin cfg0.N := ⟨n % 32, Nat.lt_of_lt_of_eq (Nat.mod_lt n (by decide)) N_0.symm⟩

theorem pt_val (t : Fin cfg0.N) : pt t.val = t := by
  apply Fin.ext; show t.val % 32 = t.val; exact Nat.mod_eq_of_lt (lt32 t)

/-- Image `j` of the batch as the pipeline stages it. -/
def img (c : Dev nD) (j : ℕ) : Vec F S1x3x512x512 .f32 := iblk m c 0 (pt j)

theorem slab_inb (j : ℕ) (hj : j < 16) : ∀ a, (![j, 0, 0] : Fin 3 → ℕ) a + S1x512x512.size a ≤ S16x512x512.size a := by
  intro a
  match a with
  | 0 => exact hj
  | 1 => exact Nat.le_refl _
  | 2 => exact Nat.le_refl _

/-- The norms of the images before number `k` lie in their slabs. -/
def Kept (c : Dev nD) (k : ℕ) (d : Vec F S16x512x512 .f32) : Prop :=
  ∀ (j : ℕ) (hj : j < 16), j < k → VecWindow.window d ![j, 0, 0] S1x512x512.size (slab_inb j hj) = k0_pay2 (img m c j)

theorem Kept.zero (c : Dev nD) (d : Vec F S16x512x512 .f32) : Kept m c 0 d := fun _ _ h => absurd h (Nat.not_lt_zero _)

/-- Storing the next image's norm keeps the earlier ones. -/
theorem Kept.step {c : Dev nD} {k : ℕ} {d : Vec F S16x512x512 .f32} (h : Kept m c k d) (hk : k < 16) :
    Kept m c (k + 1) (VecWindow.put d ![k, 0, 0] S1x512x512.size (k0_pay2 (img m c k))) := by
  intro j hj hjk
  rcases Nat.lt_or_ge j k with hlt | hge
  · rw [← h j hj hlt]
    exact VecWindow.window_put_of_disjoint d _ _ _ _ _ _ 0 (Or.inl hlt)
  · obtain rfl : j = k := by omega
    exact VecWindow.window_put_same d _ _ _ _

theorem Kept.last {c : Dev nD} {k : ℕ} {d : Vec F S16x512x512 .f32} (h : Kept m c k d) (hk : 16 ≤ k) (k' : ℕ) : Kept m c k' d :=
  fun j hj _ => h j hj (by omega)

/-- The running maximum after image `n`. -/
def runTop (c : Dev nD) : ℕ → Elt F .f32
  | 0 => k0_pay3 (img m c 0)
  | n + 1 => k0_pay4 (img m c (n + 1)) (runTop c n)

/-- The maximum over the batch, as the second phase finds it. -/
def allTop (c : Dev nD) : Elt F .f32 := runTop m c 15

/-- The slab a second-phase point loads is its image's norm. -/
theorem slab_kept {c : Dev nD} {k : ℕ} {d : Vec F S16x512x512 .f32} (h : Kept m c k d) (hk : 16 ≤ k) (t : Fin cfg0.N)
    (ht : 16 ≤ t.val) (hc : k0_cond4 (grid0.coords t) = 1#1) : slab (grid0.coords t) hc d = k0_pay2 (img m c (t.val - 16)) := by
  have h32 := lt32 t
  rw [← h (t.val - 16) (by omega) (by omega)]
  have e := off2_eq t (t.val - 16) (by omega)
  funext y
  unfold slab VecWindow.window
  exact congrArg d (funext fun a => Fin.ext (by
    show k0_off2 (grid0.coords t) a + 1 * (y a).val = (![t.val - 16, 0, 0] : Fin 3 → ℕ) a + 1 * (y a).val
    rw [e]))

/-- The region invariant before point `n`: the norms so far in their slabs and the running maximum in the cell. -/
def Inv (c : Dev nD) : ℕ → sProp 𝕄
  | 0 => Pipeline.ΦA spec0 c
  | n + 1 => iprop(iprop((∃ d, ⌜Kept m c (n + 1) d⌝ ∗ owns (c : Thread nD τ) scNorm fullShare d)
      ∗ owns (c : Thread nD τ) scTop fullShare (fun _ => runTop m c (min n 15))) ∗ (∃ r, prngReg c r))

theorem Inv_succ (c : Dev nD) (n : ℕ) : Inv m c (n + 1) = iprop(iprop((∃ d, ⌜Kept m c (n + 1) d⌝ ∗ owns (c : Thread nD τ) scNorm fullShare d)
      ∗ owns (c : Thread nD τ) scTop fullShare (fun _ => runTop m c (min n 15))) ∗ (∃ r, prngReg c r)) := rfl

/-- The edge block of the image a point reads in the second phase. -/
def edgeAt (c : Dev nD) (t : Fin cfg0.N) : Vec F S1x1x512x512 .f32 :=
  edgeK (k0_pay2 (img m c (t.val - 16))) (allTop m c) (iblk m c 1 t) (iblk m c 2 t)
/-- The two-channel block of the image a point reads in the second phase. -/
def sobelAt (c : Dev nD) (t : Fin cfg0.N) : Vec F S1x2x512x512 .f32 :=
  sobelK (k0_pay2 (img m c (t.val - 16))) (allTop m c) (iblk m c 1 t) (iblk m c 2 t)

/-! ## The pipeline's proof data -/

/-- The arrays as the region finds them, each input's buffer left at its block, the outputs' at the second phase's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => edgeAt m c t
    | ⟨4, _⟩ => sobelAt m c t
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = edgeAt m c t := by dsimp only [dats]
theorem after_4 (c : Dev nD) (t : Fin cfg0.N) : (dats m 0 c).after 4 t = sobelAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- No output is written back in the first phase, each is at every point of the second. -/
theorem flush_3 : ∀ t : Fin cfg0.N, (cfg0.win 3).flush t = true ↔ 16 ≤ t.val := by decide +kernel
theorem flush_4 : ∀ t : Fin cfg0.N, (cfg0.win 4).flush t = true ↔ 16 ≤ t.val := by decide +kernel

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]

theorem not_cond4 {t : Fin cfg0.N} (h : t.val < 16) : ¬ k0_cond4 (grid0.coords t) = 1#1 := fun h4 => absurd ((cond4_iff t).mp h4) (by omega)

theorem idle_3 {t : Fin cfg0.N} (h : t.val < 16) : cfg0.idle 3 (cfg0.grid.coords t) = true := by
  have := not_cond4 h
  show (!(k0_cond4 (grid0.coords t) == 1#1)) = true
  simpa using this
theorem idle_4 {t : Fin cfg0.N} (h : t.val < 16) : cfg0.idle 4 (cfg0.grid.coords t) = true := idle_3 h
theorem live_3 {t : Fin cfg0.N} (h : 16 ≤ t.val) : cfg0.idle 3 (cfg0.grid.coords t) = false := by
  have := (cond4_iff t).mpr h
  show (!(k0_cond4 (grid0.coords t) == 1#1)) = false
  rw [this]; rfl
theorem live_4 {t : Fin cfg0.N} (h : 16 ≤ t.val) : cfg0.idle 4 (cfg0.grid.coords t) = false := live_3 h

theorem leaves_3_idle (c : Dev nD) {t : Fin cfg0.N} (h : t.val < 16) :
    (dats m 0 c).leavesExact 3 t = iprop(∃ d, owns (c : Thread nD τ) (ms3 t) fullShare ((dats m 0 c).before 3 t d)) :=
  Dat.leavesExact_idle _ 3 t (idle_3 h) (Bool.eq_false_iff.mpr fun hf => absurd ((flush_3 t).mp hf) (by omega))
theorem leaves_4_idle (c : Dev nD) {t : Fin cfg0.N} (h : t.val < 16) :
    (dats m 0 c).leavesExact 4 t = iprop(∃ d, owns (c : Thread nD τ) (ms4 t) fullShare ((dats m 0 c).before 4 t d)) :=
  Dat.leavesExact_idle _ 4 t (idle_4 h) (Bool.eq_false_iff.mpr fun hf => absurd ((flush_4 t).mp hf) (by omega))
theorem leaves_3 (c : Dev nD) {t : Fin cfg0.N} (h : 16 ≤ t.val) :
    (dats m 0 c).leavesExact 3 t = owns (c : Thread nD τ) (ms3 t) fullShare (edgeAt m c t) := by
  unfold Dat.leavesExact; rw [live_3 h, after_3]
theorem leaves_4 (c : Dev nD) {t : Fin cfg0.N} (h : 16 ≤ t.val) :
    (dats m 0 c).leavesExact 4 t = owns (c : Thread nD τ) (ms4 t) fullShare (sobelAt m c t) := by
  unfold Dat.leavesExact; rw [live_4 h, after_4]

end Cert.KernelIdeal.Hand

end
-- ==== Proof.Launch.lean ====
/- The body obligation, the launch and the frame of the idealized program. -/
module

public import proofs.«01_k».proof.Proof.Points
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem img_at (c : Dev nD) (t : Fin cfg0.N) : iblk m c 0 t = img m c t.val := by unfold img; rw [pt_val]

/-- The body at the first point: the cell starts at the first image's maximum. -/
theorem sound_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) from rfl, Inv_succ]
  rw [show (dats m 0 c).Φ t.castSucc = Inv m c t.val from rfl, hz, show Inv m c 0 = Pipeline.ΦA spec0 c from rfl, start_eq]
  have h : t.val < 16 := by omega
  rw [leaves_0, leaves_1, leaves_2, leaves_3_idle m c h, leaves_4_idle m c h]
  iintro ⟨⟨⟨⟨%dn, HS0⟩, ⟨%dt, HS1⟩⟩, Hg⟩, Ho, ⟨%d0, H0⟩, ⟨%d1, H1⟩, ⟨%d2, H2⟩, ⟨%d3, H3⟩, ⟨%d4, H4⟩⟩
  iapply (runA c (grid0.coords t) (ms0 t) (hs0 t) (ms1 t) (hs1 t) (ms2 t) (hs2 t) (ms3 t) (hs3 t) (ms4 t) (hs4 t) scNorm (Memref.isWhole_whole _) scTop (Memref.isWhole_whole _) ((cond1_iff t).mpr h) ((first_iff t).mpr (by omega)) (fun hh => absurd ((later_iff t).mp hh) (by omega)) (not_cond4 h) (iblk m c 0 t) (iblk m c 1 t) (iblk m c 2 t) ((dats m 0 c).before 3 t d3) ((dats m 0 c).before 4 t d4) dn dt Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexists _; isplitr; swap; · iexact HS0
        ipureintro; rw [off1_eq t 0 (by omega), img_at, hz]; exact (Kept.zero m c dn).step m (by decide)
      rw [img_at, hz]; iexact HS1
    iexact Hg
  isplitl [Ho]; · iexact Ho
  isplitl [H0]; · iexact H0
  isplitl [H1]; · iexact H1
  isplitl [H2]; · iexact H2
  isplitl [H3]; · iexists _; iexact H3
  iexists _; iexact H4

/-- The body at a later point of the first phase. -/
theorem sound_later (c : Dev nD) (t : Fin cfg0.N) (n : ℕ) (hn : t.val = n + 1) (h : t.val < 16) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) from rfl, Inv_succ]
  rw [show (dats m 0 c).Φ t.castSucc = Inv m c t.val from rfl, hn, Inv_succ]
  rw [leaves_0, leaves_1, leaves_2, leaves_3_idle m c h, leaves_4_idle m c h]
  rw [show min n 15 = n by omega, show min (n + 1) 15 = n + 1 by omega]
  iintro ⟨⟨⟨⟨%dn, %hk, HS0⟩, HS1⟩, Hg⟩, Ho, ⟨%d0, H0⟩, ⟨%d1, H1⟩, ⟨%d2, H2⟩, ⟨%d3, H3⟩, ⟨%d4, H4⟩⟩
  iapply (runB c (grid0.coords t) (ms0 t) (hs0 t) (ms1 t) (hs1 t) (ms2 t) (hs2 t) (ms3 t) (hs3 t) (ms4 t) (hs4 t) scNorm (Memref.isWhole_whole _) scTop (Memref.isWhole_whole _) ((cond1_iff t).mpr h) (fun hh => absurd ((first_iff t).mp hh) (by omega)) ((later_iff t).mpr (by omega)) (not_cond4 h) (iblk m c 0 t) (iblk m c 1 t) (iblk m c 2 t) ((dats m 0 c).before 3 t d3) ((dats m 0 c).before 4 t d4) dn (fun _ => runTop m c n) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexists _; isplitr; swap; · iexact HS0
        ipureintro; rw [off1_eq t (n + 1) (by omega), img_at, hn]; exact hk.step m (by omega)
      rw [img_at, hn]; iexact HS1
    iexact Hg
  isplitl [Ho]; · iexact Ho
  isplitl [H0]; · iexact H0
  isplitl [H1]; · iexact H1
  isplitl [H2]; · iexact H2
  isplitl [H3]; · iexists _; iexact H3
  iexists _; iexact H4

/-- The body at a point of the second phase. -/
theorem sound_second (c : Dev nD) (t : Fin cfg0.N) (n : ℕ) (hn : t.val = n + 1) (h : 16 ≤ t.val) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) from rfl, Inv_succ]
  rw [show (dats m 0 c).Φ t.castSucc = Inv m c t.val from rfl, hn, Inv_succ]
  rw [leaves_0, leaves_1, leaves_2, leaves_3 m c h, leaves_4 m c h]
  rw [show min n 15 = 15 by omega, show min (n + 1) 15 = 15 by omega]
  iintro ⟨⟨⟨⟨%dn, %hk, HS0⟩, HS1⟩, Hg⟩, Ho, ⟨%d0, H0⟩, ⟨%d1, H1⟩, ⟨%d2, H2⟩, ⟨%d3, H3⟩, ⟨%d4, H4⟩⟩
  have h4 := (cond4_iff t).mpr h
  have hs := slab_kept m hk (by omega) t h h4
  unfold edgeAt sobelAt
  rw [← hs]
  iapply (runC c (grid0.coords t) (ms0 t) (hs0 t) (ms1 t) (hs1 t) (ms2 t) (hs2 t) (ms3 t) (hs3 t) (ms4 t) (hs4 t) scNorm (Memref.isWhole_whole _) scTop (Memref.isWhole_whole _) (fun hh => absurd ((cond1_iff t).mp hh) (by omega)) h4 (iblk m c 0 t) (iblk m c 1 t) (iblk m c 2 t) ((dats m 0 c).before 3 t d3) ((dats m 0 c).before 4 t d4) dn (fun _ => runTop m c 15) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexists _; isplitr; swap; · iexact HS0
        ipureintro; exact hk.last m (by omega) _
      iexact HS1
    iexact Hg
  isplitl [Ho]; · iexact Ho
  isplitl [H0]; · iexact H0
  isplitl [H1]; · iexact H1
  isplitl [H2]; · iexact H2
  isplitl [H3]; · iexact H3
  iexact H4

/-- The body at any point. -/
theorem sound_body (c : Dev nD) (t : Fin cfg0.N) :
    bodyPre m c t ⊢ wp frame (wpE (defs₀ (F := F)) Variants.none c none) Set.univ (bodyAt0 t) (fun _ => bodyPost m c t) := by
  rcases Nat.eq_zero_or_pos t.val with hz | hp
  · exact sound_first m c t hz
  · rcases Nat.lt_or_ge t.val 16 with h | h
    · exact sound_later m c t (t.val - 1) (by omega) h
    · exact sound_second m c t (t.val - 1) (by omega) h

/-- The body table's row at a point's slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem Inv_out (c : Dev nD) (n : ℕ) : Inv m c (n + 1) ⊢ Pipeline.ΦA spec0 c := by
  rw [Inv_succ, start_eq]
  iintro ⟨⟨⟨%dn, -, HS0⟩, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c := by
  rw [show (dats m 0 c).Φ (Fin.last cfg0.N) = Inv m c (cfg0.N - 1 + 1) from by
    show Inv m c cfg0.N = _
    rw [show cfg0.N - 1 + 1 = cfg0.N from by have : cfg0.N = 32 := N_0; omega]]
  exact Inv_out m c _

/-! ## The run and the frame -/

set_option backward.isDefEq.respectTransparency.types false in
/-- The launch: the windows' arrays at what the data say, everything else as the region found it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The same, and every counter back at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.Same.lean ====
/- The idealized program is the kernel's own text: its table of bodies is the kernel's, so what is proved of it at any
   number format holds of the kernel. -/
module

public import proofs.«01_k».proof.Proof.Gen.Kernel
public import proofs.«01_k».proof.Proof.Launch

@[expose] public section

set_option maxRecDepth 16384

noncomputable section

namespace Cert.Same

open Idealize.ShloMosaic Idealize.ShloMosaic.TcCoe Idealize.SL.Sem

variable {F : FTy → Type} [FloatOps F]

/-- The bodies are the same functions. -/
theorem bodies : Cert.Kernel.defs₀ (F := F) = Cert.KernelIdeal.defs₀ := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

/-- The whole tables are the same. -/
theorem tables : Cert.Kernel.defs (F := F) = Cert.KernelIdeal.defs := congrArg (Pipeline.defs _) bodies

/-- The kernel's own run: its arguments end unchanged and every counter at zero. -/
theorem frame_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [tables]
  exact Cert.KernelIdeal.Hand.frame_ideal (F := F) m ρ

end Cert.Same

end
-- ==== Proof.Plane.lean ====
/- The mirrored plane and the two 5x5 filters on it: each filter's symmetric form is its sum over the 25 taps. -/
module

public import Idealize.ShloMosaic.Lib.Pointwise
public import Mathlib.Tactic.Ring
public import Mathlib.Tactic.Linarith

@[expose] public section

set_option maxRecDepth 16384

noncomputable section

namespace Cert.Canny

open Idealize.ShloMosaic

/-- Where position `k` of an axis of 512, padded by two mirrored positions at each end, comes from. -/
def mir (k : ℕ) : ℕ := if k < 2 then 2 - k else if k < 514 then k - 2 else 1024 - k

theorem mir_lt {k : ℕ} (h : k < 516) : mir k < 512 := by unfold mir; split_ifs <;> omega

/-- The plane `p` padded by two mirrored positions on each side, read at a padded position. -/
def mirrored (p : Fin 512 → Fin 512 → EReal) (R C : ℕ) : EReal :=
  if h : R < 516 ∧ C < 516 then p ⟨mir R, mir_lt h.1⟩ ⟨mir C, mir_lt h.2⟩ else 0

/-- A mirrored position, given where it comes from. -/
theorem mirrored_eq (p : Fin 512 → Fin 512 → EReal) {R C : ℕ} (r c : Fin 512) (hR : R < 516) (hC : C < 516)
    (hr : r.val = mir R) (hc : c.val = mir C) : mirrored p R C = p r c := by
  unfold mirrored
  rw [dif_pos ⟨hR, hC⟩]
  rw [show (⟨mir R, mir_lt hR⟩ : Fin 512) = r from Fin.ext hr.symm, show (⟨mir C, mir_lt hC⟩ : Fin 512) = c from Fin.ext hc.symm]

/-- Two padded columns that come from one column. -/
theorem mirrored_col (p : Fin 512 → Fin 512 → EReal) {R C C' : ℕ} (hC : C < 516) (hC' : C' < 516) (h : mir C = mir C') :
    mirrored p R C = mirrored p R C' := by
  unfold mirrored
  by_cases hR : R < 516
  · rw [dif_pos ⟨hR, hC⟩, dif_pos ⟨hR, hC'⟩]
    exact congrArg (p _) (Fin.ext h)
  · rw [dif_neg fun h => hR h.1, dif_neg fun h => hR h.1]

/-- The x filter as the kernel groups it: five horizontal differences of column pairs, summed by row pairs. -/
def xGrouped (w : Fin 5 → Fin 5 → EReal) (q : ℕ → ℕ → EReal) (r c : ℕ) : EReal :=
  let d (a R : ℕ) (i : Fin 5) := w i 0 * (q R c - q R (c + 4)) + w i 1 * (q R (c + 1) - q R (c + 3))
  d 0 r 0 + d 0 (r + 4) 0 + d 0 (r + 1) 1 + d 0 (r + 3) 1 + d 0 (r + 2) 2

/-- The y filter as the kernel groups it: four horizontal sums of column pairs, subtracted by row pairs. -/
def yGrouped (w : Fin 5 → Fin 5 → EReal) (q : ℕ → ℕ → EReal) (r c : ℕ) : EReal :=
  let e (R : ℕ) (i : Fin 5) := w i 0 * (q R c + q R (c + 4)) + w i 1 * (q R (c + 1) + q R (c + 3)) + w i 2 * q R (c + 2)
  e r 0 - e (r + 4) 0 + e (r + 1) 1 - e (r + 3) 1

/-- A filter as the sum over its 25 taps. -/
def tapped (w : Fin 5 → Fin 5 → EReal) (q : ℕ → ℕ → EReal) (r c : ℕ) : EReal :=
  ∑ k : Fin 25, w ⟨k.val / 5, by omega⟩ ⟨k.val % 5, by omega⟩ * q (r + k.val / 5) (c + k.val % 5)

/-- Values that are all real. -/
def Real₂ {α β : Type} (f : α → β → EReal) : Prop := ∀ a b, ∃ x : ℝ, f a b = x

theorem Real₂.lift {α β : Type} {f : α → β → EReal} (h : Real₂ f) : ∃ g : α → β → ℝ, f = fun a b => (g a b : EReal) := by
  choose g hg using h
  exact ⟨g, funext fun a => funext fun b => hg a b⟩

/-- The 25 taps as five rows of five. -/
theorem tapped_rows (w : Fin 5 → Fin 5 → EReal) (q : ℕ → ℕ → EReal) (r c : ℕ) :
    tapped w q r c = ∑ a : Fin 5, ∑ b : Fin 5, w a b * q (r + a.val) (c + b.val) := by
  unfold tapped
  rw [← Fintype.sum_prod_type', ← (finProdFinEquiv (m := 5) (n := 5)).sum_comp]
  refine Finset.sum_congr rfl fun x _ => ?_
  have e1 : ((finProdFinEquiv x : Fin 25).val) / 5 = x.1.val := by simp [finProdFinEquiv]; omega
  have e2 : ((finProdFinEquiv x : Fin 25).val) % 5 = x.2.val := by simp [finProdFinEquiv]
  simp only [e1, e2]

/-- The same over the reals. -/
def tappedR (w : Fin 5 → Fin 5 → ℝ) (q : ℕ → ℕ → ℝ) (r c : ℕ) : ℝ := ∑ a : Fin 5, ∑ b : Fin 5, w a b * q (r + a.val) (c + b.val)

theorem tapped_real (w : Fin 5 → Fin 5 → ℝ) (q : ℕ → ℕ → ℝ) (r c : ℕ) :
    tapped (fun a b => (w a b : EReal)) (fun a b => (q a b : EReal)) r c = (tappedR w q r c : EReal) := by
  rw [tapped_rows, tappedR]
  simp only [Fin.sum_univ_five, EReal.coe_mul, EReal.coe_add]

/-- A filter on real values has a real response. -/
theorem tapped_isReal {w : Fin 5 → Fin 5 → EReal} {q : ℕ → ℕ → EReal} (hw : Real₂ w) (hq : Real₂ q) (r c : ℕ) :
    ∃ x : ℝ, tapped w q r c = x := by
  obtain ⟨w, rfl⟩ := hw.lift
  obtain ⟨q, rfl⟩ := hq.lift
  exact ⟨_, tapped_real w q r c⟩

/-- The x filter, equal upside down and opposite left to right: the grouped form is the sum over the taps. -/
theorem xGrouped_eq {w : Fin 5 → Fin 5 → EReal} {q : ℕ → ℕ → EReal} (hw : Real₂ w) (hq : Real₂ q)
    (hv : ∀ a b, w a b = w a.rev b) (hh : ∀ a b, w a b = - w a b.rev) (r c : ℕ) : xGrouped w q r c = tapped w q r c := by
  obtain ⟨w, rfl⟩ := hw.lift
  obtain ⟨q, rfl⟩ := hq.lift
  rw [tapped_real, xGrouped]
  simp only [← EReal.coe_neg, EReal.coe_eq_coe_iff] at hv hh
  simp only [← EReal.coe_mul, ← EReal.coe_sub, ← EReal.coe_add, EReal.coe_eq_coe_iff]
  have h3 (b) : w 3 b = w 1 b := hv 3 b
  have h4 (b) : w 4 b = w 0 b := hv 4 b
  have c3 (a) : w a 3 = - w a 1 := hh a 3
  have c4 (a) : w a 4 = - w a 0 := hh a 4
  have c2 (a) : w a 2 = 0 := by have e : w a 2 = - w a 2 := hh a 2; linarith
  simp only [tappedR, Fin.sum_univ_five, h3, h4, c3, c4, c2, Fin.val_zero, Fin.val_one, Fin.val_two, add_zero,
    show ((3 : Fin 5).val) = 3 from rfl, show ((4 : Fin 5).val) = 4 from rfl]
  ring

/-- The y filter, opposite upside down and equal left to right, likewise. -/
theorem yGrouped_eq {w : Fin 5 → Fin 5 → EReal} {q : ℕ → ℕ → EReal} (hw : Real₂ w) (hq : Real₂ q)
    (hv : ∀ a b, w a b = - w a.rev b) (hh : ∀ a b, w a b = w a b.rev) (r c : ℕ) : yGrouped w q r c = tapped w q r c := by
  obtain ⟨w, rfl⟩ := hw.lift
  obtain ⟨q, rfl⟩ := hq.lift
  rw [tapped_real, yGrouped]
  simp only [← EReal.coe_neg, EReal.coe_eq_coe_iff] at hv hh
  simp only [← EReal.coe_mul, ← EReal.coe_sub, ← EReal.coe_add, EReal.coe_eq_coe_iff]
  have h3 (b) : w 3 b = - w 1 b := hv 3 b
  have h4 (b) : w 4 b = - w 0 b := hv 4 b
  have h2 (b) : w 2 b = 0 := by have e : w 2 b = - w 2 b := hv 2 b; linarith
  have c3 (a) : w a 3 = w a 1 := hh a 3
  have c4 (a) : w a 4 = w a 0 := hh a 4
  simp only [tappedR, Fin.sum_univ_five, h3, h4, h2, c3, c4, Fin.val_zero, Fin.val_one, Fin.val_two, add_zero,
    show ((3 : Fin 5).val) = 3 from rfl, show ((4 : Fin 5).val) = 4 from rfl]
  ring

/-- The plane `g` with one ring of zeros around it, read at a padded position. -/
def ringed (g : Fin 512 → Fin 512 → EReal) (R C : ℕ) : EReal :=
  if h : (1 ≤ R ∧ R < 513) ∧ (1 ≤ C ∧ C < 513) then g ⟨R - 1, by omega⟩ ⟨C - 1, by omega⟩ else 0

/-- Inside the ring, the plane. -/
theorem ringed_in (g : Fin 512 → Fin 512 → EReal) {R C : ℕ} (r c : Fin 512) (hr : R = r.val + 1) (hc : C = c.val + 1) :
    ringed g R C = g r c := by
  subst hr hc
  unfold ringed
  rw [dif_pos (by omega)]
  rfl

/-- On the ring, zero. -/
theorem ringed_out (g : Fin 512 → Fin 512 → EReal) {R C : ℕ} (h : ¬ ((1 ≤ R ∧ R < 513) ∧ (1 ≤ C ∧ C < 513))) : ringed g R C = 0 :=
  dif_neg h

/-- The words of the three constants: the tangent of an eighth of a half turn, the offset of the denominator, the threshold. -/
def tanWord : EReal := Ideal.ofBits .f32 0x3ED413CD#32
def epsWord : EReal := Ideal.ofBits .f32 0x3727C5AC#32
def lowWord : EReal := Ideal.ofBits .f32 0x3DCCCCCD#32

/-- The direction's sector by comparisons: across, along, or one of the two diagonals by the sign of the product. -/
def sector (y x : EReal) : Fin 4 :=
  if FloatOps.absf (F := Ideal) (φ := .f32) y ≤ tanWord * FloatOps.absf (F := Ideal) (φ := .f32) x then 0
  else if FloatOps.absf (F := Ideal) (φ := .f32) x ≤ tanWord * FloatOps.absf (F := Ideal) (φ := .f32) y then 2
  else if 0 < y * x then 1 else 3

/-- The padded offsets of the neighbour a magnitude must exceed, and of the one it must not be below, by sector. -/
def overRow : Fin 4 → ℕ := ![0, 0, 1, 0]
def overCol : Fin 4 → ℕ := ![1, 0, 0, 2]
def notBelowRow : Fin 4 → ℕ := ![2, 2, 1, 2]
def notBelowCol : Fin 4 → ℕ := ![1, 2, 2, 0]

/-- An edge by sector `s`: the magnitude above its first neighbour, not below its second, and above the threshold. -/
def edgeBy (s : Fin 4) (g : Fin 512 → Fin 512 → EReal) (r c : Fin 512) : EReal :=
  if ringed g (r.val + overRow s) (c.val + overCol s) < g r c
    ∧ ringed g (r.val + notBelowRow s) (c.val + notBelowCol s) ≤ g r c ∧ lowWord < g r c then 1 else 0

/-- The magnitude of two responses. -/
def mag (sx sy : Fin 512 → Fin 512 → EReal) (r c : Fin 512) : EReal := Ideal.sqrt (sx r c * sx r c + sy r c * sy r c)

end Cert.Canny

end
-- ==== Proof.KFilter.lean ====
/- What the kernel's filter payloads hold, position by position. -/
module

public import proofs.«01_k».proof.Proof.Body
public import proofs.«01_k».proof.Proof.Plane
public import Idealize.ShloMosaic.Lib.Pointwise

@[expose] public section

set_option maxRecDepth 16384

noncomputable section

namespace Cert.KernelIdeal.Hand

open Idealize.ShloMosaic Cert.Canny
open Cert.KernelIdeal.Gen

/-- The normalised image: each norm over the batch's largest. -/
def planeK (L : Vec Ideal S1x512x512 .f32) (g : EReal) (r c : Fin 512) : EReal := Ideal.div (L (ix3 0 r c)) g

variable (L : Vec Ideal S1x512x512 .f32) (g : Elt Ideal .f32)

/-- The image with two mirrored rows above and below. -/
theorem pay8_at (R : Fin 516) (c : Fin 512) : k0_pay8 L g (ix2 R c) = mirrored (planeK L g) R.val (c.val + 2) := by
  pointwise [k0_pay8]
  split_ifs <;> (symm; refine mirrored_eq (planeK L g) _ c (by omega) (by omega) ?_ ?_ <;> simp only [mir] <;> split_ifs <;> omega)

/-- The same, read two columns to the left. -/
theorem pay9_at (R : Fin 516) (c : Fin 512) : k0_pay9 L g (ix2 R c) = mirrored (planeK L g) R.val (c.val + 0) := by
  pointwise [k0_pay9]
  split_ifs <;> (rw [pay8_at]; refine mirrored_col _ ?_ ?_ ?_ <;> (try simp only [mir]) <;> (try split_ifs) <;> omega)

/-- The same, read one column to the left. -/
theorem pay10_at (R : Fin 516) (c : Fin 512) : k0_pay10 L g (ix2 R c) = mirrored (planeK L g) R.val (c.val + 1) := by
  pointwise [k0_pay10]
  split_ifs <;> (rw [pay8_at]; refine mirrored_col _ ?_ ?_ ?_ <;> (try simp only [mir]) <;> (try split_ifs) <;> omega)

/-- The same, read one column to the right. -/
theorem pay11_at (R : Fin 516) (c : Fin 512) : k0_pay11 L g (ix2 R c) = mirrored (planeK L g) R.val (c.val + 3) := by
  pointwise [k0_pay11]
  split_ifs <;> (rw [pay8_at]; refine mirrored_col _ ?_ ?_ ?_ <;> (try simp only [mir]) <;> (try split_ifs) <;> omega)

/-- The same, read two columns to the right. -/
theorem pay12_at (R : Fin 516) (c : Fin 512) : k0_pay12 L g (ix2 R c) = mirrored (planeK L g) R.val (c.val + 4) := by
  pointwise [k0_pay12]
  split_ifs <;> (rw [pay8_at]; refine mirrored_col _ ?_ ?_ ?_ <;> (try simp only [mir]) <;> (try split_ifs) <;> omega)

variable (x1 x2 : Vec Ideal S5x5 .f32)

/-- The weights of a filter, by row and column. -/
def taps5 (x : Vec Ideal S5x5 .f32) (a b : Fin 5) : EReal := x (ix2 a b)

/-- A loaded weight is the filter's at that place. -/
theorem tap_at (x : Vec Ideal S5x5 .f32) (a b : ℕ) (ha : a < 5) (hb : b < 5) (inb : ∀ k, (![a, b] : Fin 2 → ℕ) k + S1x1.size k ≤ S5x5.size k) :
    tap x ![a, b] inb = taps5 x ⟨a, ha⟩ ⟨b, hb⟩ := by
  unfold tap taps5
  refine congrArg x (funext fun k => Fin.ext ?_)
  match k with
  | ⟨0, _⟩ => rfl
  | ⟨1, _⟩ => rfl

/-- The x response is the grouped form of the filter. -/
theorem sxK_at (r c : Fin 512) : sxK L g x1 (ix2 r c) = xGrouped (taps5 x1) (mirrored (planeK L g)) r.val c.val := by
  unfold sxK hx0 hx1 hx2
  pointwise [k0_pay23, k0_pay17, k0_pay18, k0_pay19, k0_pay20, k0_pay13, k0_pay14, pay9_at, pay10_at, pay11_at, pay12_at]
  rw [tap_at x1 0 0 (by decide) (by decide), tap_at x1 0 1 (by decide) (by decide), tap_at x1 1 0 (by decide) (by decide),
    tap_at x1 1 1 (by decide) (by decide), tap_at x1 2 0 (by decide) (by decide), tap_at x1 2 1 (by decide) (by decide)]
  simp only [Nat.add_comm 1 r.val, Nat.add_comm 2 r.val, Nat.add_comm 3 r.val, Nat.add_comm 4 r.val]
  rfl

/-- The y response is the grouped form of the filter. -/
theorem syK_at (r c : Fin 512) : syK L g x2 (ix2 r c) = yGrouped (taps5 x2) (mirrored (planeK L g)) r.val c.val := by
  unfold syK hy0 hy1
  pointwise [k0_pay24, k0_pay21, k0_pay22, k0_pay15, k0_pay16, pay8_at, pay9_at, pay10_at, pay11_at, pay12_at]
  rw [tap_at x2 0 0 (by decide) (by decide), tap_at x2 0 1 (by decide) (by decide), tap_at x2 0 2 (by decide) (by decide),
    tap_at x2 1 0 (by decide) (by decide), tap_at x2 1 1 (by decide) (by decide), tap_at x2 1 2 (by decide) (by decide)]
  simp only [Nat.add_comm 1 r.val, Nat.add_comm 3 r.val, Nat.add_comm 4 r.val]
  rfl

end Cert.KernelIdeal.Hand

end
-- ==== Proof.KEdge.lean ====
/- What the kernel's edge payload holds, position by position. -/
module

public import proofs.«01_k».proof.Proof.KFilter

@[expose] public section

set_option maxRecDepth 16384

noncomputable section

namespace Cert.KernelIdeal.Hand

open Idealize.ShloMosaic Cert.Canny
open Cert.KernelIdeal.Gen

variable (L : Vec Ideal S1x512x512 .f32) (g : Elt Ideal .f32) (x1 x2 : Vec Ideal S5x5 .f32)

/-- The two responses by row and column. -/
def sxAt (r c : Fin 512) : EReal := sxK L g x1 (ix2 r c)
def syAt (r c : Fin 512) : EReal := syK L g x2 (ix2 r c)
/-- The magnitude of the two responses. -/
abbrev magK : Fin 512 → Fin 512 → EReal := mag (sxAt L g x1) (syAt L g x2)

theorem nb25_at (r c : Fin 512) : nb25 L g x1 x2 (ix2 r c) = magK L g x1 x2 r c := by
  unfold nb25 magK mag sxAt syAt sxK syK
  pointwise [k0_pay25]

/-- The magnitude's payload, spelled as the neighbours' payloads spell it. -/
theorem mag_at (a b : Fin 512) : k0_pay25 (k0_pay8 L g) (hx0 L g x1) (hx1 L g x1) (hx2 L g x1) (hy0 L g x2) (hy1 L g x2)
    (tap x2 ![1, 2] inb_S5x5_S1x1_1_2) (ix2 a b) = magK L g x1 x2 a b := nb25_at L g x1 x2 a b

theorem nb29_at (r c : Fin 512) : nb29 L g x1 x2 (ix2 r c) = ringed (magK L g x1 x2) (r.val + 1) (c.val + 0) := by
  unfold nb29
  pointwise [k0_pay29, k0_pay28, k0_pay26, mag_at]
  symm
  split_ifs <;> first
    | exact ringed_out _ (by omega)
    | (refine ringed_in _ _ _ ?_ ?_ <;> first | rfl | (dsimp only; omega))

theorem nb30_at (r c : Fin 512) : nb30 L g x1 x2 (ix2 r c) = ringed (magK L g x1 x2) (r.val + 1) (c.val + 2) := by
  unfold nb30
  pointwise [k0_pay30, k0_pay28, k0_pay26, mag_at]
  symm
  split_ifs <;> first
    | exact ringed_out _ (by omega)
    | (refine ringed_in _ _ _ ?_ ?_ <;> first | rfl | (dsimp only; omega))

theorem nb31_at (r c : Fin 512) : nb31 L g x1 x2 (ix2 r c) = ringed (magK L g x1 x2) (r.val + 0) (c.val + 1) := by
  unfold nb31
  pointwise [k0_pay31, k0_pay27, k0_pay26, mag_at]
  symm
  split_ifs <;> first
    | exact ringed_out _ (by omega)
    | (refine ringed_in _ _ _ ?_ ?_ <;> first | rfl | (dsimp only; omega))

theorem nb32_at (r c : Fin 512) : nb32 L g x1 x2 (ix2 r c) = ringed (magK L g x1 x2) (r.val + 2) (c.val + 1) := by
  unfold nb32
  pointwise [k0_pay32, k0_pay27, k0_pay26, mag_at]
  symm
  split_ifs <;> first
    | exact ringed_out _ (by omega)
    | (refine ringed_in _ _ _ ?_ ?_ <;> first | rfl | (dsimp only; omega))

theorem nb33_at (r c : Fin 512) : nb33 L g x1 x2 (ix2 r c) = ringed (magK L g x1 x2) (r.val + 0) (c.val + 0) := by
  unfold nb33
  pointwise [k0_pay33, k0_pay27, k0_pay28, k0_pay29, k0_pay26, mag_at]
  symm
  split_ifs <;> first
    | exact ringed_out _ (by omega)
    | (refine ringed_in _ _ _ ?_ ?_ <;> first | rfl | (dsimp only; omega))

theorem nb34_at (r c : Fin 512) : nb34 L g x1 x2 (ix2 r c) = ringed (magK L g x1 x2) (r.val + 2) (c.val + 0) := by
  unfold nb34
  pointwise [k0_pay34, k0_pay27, k0_pay28, k0_pay29, k0_pay26, mag_at]
  symm
  split_ifs <;> first
    | exact ringed_out _ (by omega)
    | (refine ringed_in _ _ _ ?_ ?_ <;> first | rfl | (dsimp only; omega))

theorem nb35_at (r c : Fin 512) : nb35 L g x1 x2 (ix2 r c) = ringed (magK L g x1 x2) (r.val + 0) (c.val + 2) := by
  unfold nb35
  pointwise [k0_pay35, k0_pay27, k0_pay28, k0_pay30, k0_pay26, mag_at]
  symm
  split_ifs <;> first
    | exact ringed_out _ (by omega)
    | (refine ringed_in _ _ _ ?_ ?_ <;> first | rfl | (dsimp only; omega))

theorem nb36_at (r c : Fin 512) : nb36 L g x1 x2 (ix2 r c) = ringed (magK L g x1 x2) (r.val + 2) (c.val + 2) := by
  unfold nb36
  pointwise [k0_pay36, k0_pay27, k0_pay28, k0_pay30, k0_pay26, mag_at]
  symm
  split_ifs <;> first
    | exact ringed_out _ (by omega)
    | (refine ringed_in _ _ _ ?_ ?_ <;> first | rfl | (dsimp only; omega))

/-- Choosing by three conjoined tests. -/
theorem select_and3 (P Q R : Prop) [Decidable P] [Decidable Q] [Decidable R] (a b : EReal) :
    Scalar.select (IntOp.andi (IntOp.andi (BitVec.ofBool (decide P)) (BitVec.ofBool (decide Q))) (BitVec.ofBool (decide R))) a b
      = if P ∧ Q ∧ R then a else b := by
  by_cases hP : P <;> by_cases hQ : Q <;> by_cases hR : R <;> simp [hP, hQ, hR, Scalar.select, IntOp.andi]

/-- The edge block is the edge by the comparisons' sector. -/
theorem edgeK_at (r c : Fin 512) : edgeK L g x1 x2 (ix4 0 0 r c)
    = edgeBy (sector (sxAt L g x1 r c) (syAt L g x2 r c + epsWord)) (magK L g x1 x2) r c := by
  unfold edgeK nb40
  pointwise [k0_pay5, k0_pay40, k0_pay41, k0_pay37, k0_pay39, k0_pay38, nb25_at, nb29_at, nb30_at, nb31_at, nb32_at, nb33_at,
    nb34_at, nb35_at, nb36_at]
  rw [show k0_pay23 (hx0 L g x1) (hx1 L g x1) (hx2 L g x1) (ix2 r c) = sxAt L g x1 r c from rfl,
    show k0_pay24 (k0_pay8 L g) (hy0 L g x2) (hy1 L g x2) (tap x2 ![1, 2] inb_S5x5_S1x1_1_2) (ix2 r c) = syAt L g x2 r c from rfl,
    show sxK L g x1 (ix2 r c) = sxAt L g x1 r c from rfl]
  refine (select_and3 _ _ _ _ _).trans ?_
  unfold sector edgeBy
  rw [show Ideal.ofBits .f32 0x3ED413CD#32 = tanWord from rfl, show Ideal.ofBits .f32 0x3727C5AC#32 = epsWord from rfl,
    show Ideal.ofBits .f32 0x3DCCCCCD#32 = lowWord from rfl]
  by_cases h0 : FloatOps.absf (F := Ideal) (φ := .f32) (sxAt L g x1 r c) ≤ tanWord * FloatOps.absf (F := Ideal) (φ := .f32) (syAt L g x2 r c + epsWord)
  · simp only [if_pos h0]; rfl
  by_cases h2 : FloatOps.absf (F := Ideal) (φ := .f32) (syAt L g x2 r c + epsWord) ≤ tanWord * FloatOps.absf (F := Ideal) (φ := .f32) (sxAt L g x1 r c)
  · simp only [if_neg h0, if_pos h2]; rfl
  by_cases h1 : 0 < sxAt L g x1 r c * (syAt L g x2 r c + epsWord)
  · simp only [if_neg h0, if_neg h2, if_pos h1]; rfl
  · simp only [if_neg h0, if_neg h2, if_neg h1]; rfl

end Cert.KernelIdeal.Hand

end
-- ==== Proof.KFinal.lean ====
/- What the kernel's two result arrays end holding, and its inputs' blocks as the arguments. -/
module

public import proofs.«01_k».proof.Proof.Launch
public import proofs.«01_k».proof.Proof.KEdge
public import Idealize.ShloMosaic.Lib.Pipeline.ValueKit.Geometry
public import Idealize.ShloMosaic.Lib.Pipeline.ValueKit

@[expose] public section

set_option maxRecDepth 16384

noncomputable section

namespace Cert.KernelIdeal.Hand

open Idealize.ShloMosaic Idealize.ShloMosaic.TcCoe Cert.Canny
open Idealize.ShloMosaic.Pipeline (Dat Cfg Window)
open Cert.KernelIdeal Cert.KernelIdeal.Gen

variable {F : FTy → Type} [FloatOps F]
variable (m : (ℓ : Loc nD τ sig) → Buf (Elt F) ℓ)

/-- The image a window's block is of, by grid point. -/
theorem index_3 : ∀ t : Fin cfg0.N, win0_3.index t = ![t.val % 16 * (t.val / 16), 0, 0, 0] :=
  (by decide +kernel : ∀ t : Fin grid0.N, _)
theorem index_4 : ∀ t : Fin cfg0.N, win0_4.index t = ![t.val % 16 * (t.val / 16), 0, 0, 0] :=
  (by decide +kernel : ∀ t : Fin grid0.N, _)
theorem index_0 : ∀ t : Fin cfg0.N, t.val < 16 → win0_0.index t = ![t.val, 0, 0, 0] :=
  (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)

/-- The weights reshaped from an argument to rows and columns. -/
theorem host_v0 (c : Dev nD) : V m c main_v0 = shapeCast S5x5 (m ((c : Thread nD τ).loc main_arg1)) shapeCasts_S1x1x5x5_S5x5 := by
  dsimp only [V, hostOps0]; after_results; rfl
theorem host_v1 (c : Dev nD) : V m c main_v1 = shapeCast S5x5 (m ((c : Thread nD τ).loc main_arg2)) shapeCasts_S1x1x5x5_S5x5 := by
  dsimp only [V, hostOps0]; after_results; rfl

/-- The two weight windows hold their whole arrays. -/
theorem block_1 (c : Dev nD) (t : Fin cfg0.N) : iblk m c 1 t = V m c main_v0 := by
  funext y
  blk_simp [iblk]
  refine congrArg (V m c main_v0) ?_
  blk_ext [index_1]
theorem block_2 (c : Dev nD) (t : Fin cfg0.N) : iblk m c 2 t = V m c main_v1 := by
  funext y
  blk_simp [iblk]
  refine congrArg (V m c main_v1) ?_
  blk_ext [index_2]

/-- The staged image is the batch's. -/
theorem img_read (c : Dev nD) (j : Fin 16) (k : Fin 3) (r q : Fin 512) :
    img m c j.val (ix4 0 k r q) = m ((c : Thread nD τ).loc main_arg0) (ix4 j k r q) := by
  unfold img
  rw [← V_main_arg0 m c]
  blk_simp [iblk]
  refine congrArg (V m c main_arg0) ?_
  have h : (pt j.val).val = j.val := Nat.mod_eq_of_lt (by omega)
  have e := index_0 (pt j.val) (by omega)
  blk_ext [e, h]

/-- The first result array: every image's edge block in its place. -/
def edges (c : Dev nD) : Vec F S16x1x512x512 .f32 := fun i =>
  edgeK (k0_pay2 (img m c (i 0).val)) (allTop m c) (V m c main_v0) (V m c main_v1) (ix4 0 0 (i 2) (i 3))

/-- The second result array: every image's two responses in their place. -/
def responses (c : Dev nD) : Vec F S16x2x512x512 .f32 := fun i =>
  sobelK (k0_pay2 (img m c (i 0).val)) (allTop m c) (V m c main_v0) (V m c main_v1) (ix4 0 (i 1) (i 2) (i 3))

theorem final_3 (c : Dev nD) : (dats m 0 c).arrAt 3 cfg0.N = edges m c := by
  refine (dats m 0 c).arrAt_eq_of_covers 3 _ (by decide +kernel) fun t hf y => ?_
  blk_simp
  have h := (flush_3 t).mp hf
  have hl := lt32 t
  rw [after_3, edgeAt, block_1, block_2]
  unfold edges
  have e16 : t.val / 16 = 1 := by omega
  have e0 : ((win0_3.blk t).view.emb y 0 : ℕ) = t.val - 16 := by
    idx_bounds y
    blk_simp [index_3, e16]
    omega
  rw [e0]
  refine congrArg _ ?_
  idx_bounds y
  blk_ext [index_3]

theorem final_4 (c : Dev nD) : (dats m 0 c).arrAt 4 cfg0.N = responses m c := by
  refine (dats m 0 c).arrAt_eq_of_covers 4 _ (by decide +kernel) fun t hf y => ?_
  blk_simp
  have h := (flush_4 t).mp hf
  have hl := lt32 t
  rw [after_4, sobelAt, block_1, block_2]
  unfold responses
  have e16 : t.val / 16 = 1 := by omega
  have e0 : ((win0_4.blk t).view.emb y 0 : ℕ) = t.val - 16 := by
    idx_bounds y
    blk_simp [index_4, e16]
    omega
  rw [e0]
  refine congrArg _ ?_
  idx_bounds y
  blk_ext [index_4]

end Cert.KernelIdeal.Hand

end
-- ==== Proof.Norm.lean ====
/- The norms over the channels, their largest, and the normalised image: what both programs compute first. -/
module

public import proofs.«01_k».proof.Proof.Plane
public import Idealize.ShloMosaic.PureOps.Ideal.Laws

@[expose] public section

set_option maxRecDepth 16384

noncomputable section

namespace Cert.Canny

open Idealize.ShloMosaic

/-- A batch by image, channel, row and column. -/
abbrev Batch : Type := Fin 16 → Fin 3 → Fin 512 → Fin 512 → EReal

/-- The norm over the three channels. -/
def norm (b : Batch) (j : Fin 16) (r c : Fin 512) : EReal :=
  Ideal.sqrt (b j 0 r c * b j 0 r c + b j 1 r c * b j 1 r c + b j 2 r c * b j 2 r c)

/-- The largest norm. -/
def largest (b : Batch) : EReal := ⨆ p : Fin 16 × Fin 512 × Fin 512, norm b p.1 p.2.1 p.2.2

theorem largest_le (b : Batch) (u : EReal) : largest b ≤ u ↔ ∀ j r c, norm b j r c ≤ u := by
  unfold largest
  rw [iSup_le_iff]
  exact ⟨fun h j r c => h (j, r, c), fun h p => h _ _ _⟩

theorem norm_le_largest (b : Batch) (j : Fin 16) (r c : Fin 512) : norm b j r c ≤ largest b := (largest_le b _).mp le_rfl j r c

/-- What is at most the same values is the largest. -/
theorem eq_largest {b : Batch} {x : EReal} (h : ∀ u, x ≤ u ↔ ∀ j r c, norm b j r c ≤ u) : x = largest b :=
  eq_of_forall_ge_iff fun u => (h u).trans (largest_le b u).symm

/-- The normalised image. -/
def image (b : Batch) (j : Fin 16) (r c : Fin 512) : EReal := Ideal.div (norm b j r c) (largest b)

/-- The word of minus infinity. -/
theorem word_bot : Ideal.ofBits .f32 0xFF800000#32 = ⊥ := by simp [Ideal.ofBits, Ideal.ieee]
/-- The word of infinity. -/
theorem word_top : Ideal.ofBits .f32 0x7F800000#32 = ⊤ := by simp [Ideal.ofBits, Ideal.ieee]

/-- A host maximum from minus infinity, by what it is at most. -/
theorem hostMax_le {s t u : Shape} {axes : List (Fin s.rank)} (x : FVec Ideal s .f32) (init : u.Idx → EReal) (h : s.ReducesTo axes t)
    (hu : 0 < u.numel) (h0 : init (Shape.Idx.first hu) = ⊥) (j : t.Idx) (b : EReal) :
    Host.reduce (FloatOps.maximumf (F := Ideal) (φ := .f32)) x init h hu j ≤ b ↔ ∀ i, h.drop i = j → x i ≤ b := by
  rw [Host.reduce_eq_fold, h0]
  refine (Finset.fold_max_le b).trans ?_
  simp only [bot_le, true_and, Finset.mem_filter, Finset.mem_univ]

/-- A square is not negative. -/
theorem sq_nonneg' (x : EReal) : 0 ≤ x * x := by
  induction x with
  | bot => exact le_top
  | top => exact le_top
  | coe r => rw [← EReal.coe_mul, ← EReal.coe_zero, EReal.coe_le_coe_iff]; exact mul_self_nonneg r

/-- The square of what is not zero is positive. -/
theorem sq_pos' {x : EReal} (h : x ≠ 0) : 0 < x * x :=
  lt_of_le_of_ne (sq_nonneg' x) fun e => h (by rcases mul_eq_zero.mp e.symm with h | h <;> exact h)

theorem root_nonneg {x : EReal} (h : 0 ≤ x) : 0 ≤ Ideal.sqrt x := by
  induction x with
  | bot => exact absurd h (by simp)
  | top => exact le_top
  | coe r =>
    have hr : 0 ≤ r := by exact_mod_cast h
    rw [Ideal.sqrt_coe, if_neg (not_lt.mpr hr)]
    exact_mod_cast Real.sqrt_nonneg r

theorem root_pos {x : EReal} (h : 0 < x) : 0 < Ideal.sqrt x := by
  induction x with
  | bot => exact absurd h (by simp)
  | top => exact h
  | coe r =>
    have hr : 0 < r := by exact_mod_cast h
    rw [Ideal.sqrt_coe, if_neg (not_lt.mpr hr.le)]
    exact_mod_cast Real.sqrt_pos.mpr hr

/-- A norm is not negative. -/
theorem norm_nonneg (b : Batch) (j : Fin 16) (r c : Fin 512) : 0 ≤ norm b j r c :=
  root_nonneg (add_nonneg (add_nonneg (sq_nonneg' _) (sq_nonneg' _)) (sq_nonneg' _))

/-- A batch that is not all zero has a positive norm. -/
theorem largest_pos {b : Batch} {j : Fin 16} {k : Fin 3} {r c : Fin 512} (h : b j k r c ≠ 0) : 0 < largest b := by
  refine lt_of_lt_of_le (root_pos ?_) (norm_le_largest b j r c)
  have h0 := sq_nonneg' (b j 0 r c)
  have h1 := sq_nonneg' (b j 1 r c)
  have h2 := sq_nonneg' (b j 2 r c)
  match k, h with
  | 0, h => exact lt_of_lt_of_le (sq_pos' h) (le_add_of_le_of_nonneg (le_add_of_nonneg_right h1) h2)
  | 1, h => exact lt_of_lt_of_le (sq_pos' h) (le_add_of_le_of_nonneg (le_add_of_nonneg_left h0) h2)
  | 2, h => exact lt_of_lt_of_le (sq_pos' h) (le_add_of_nonneg_left (add_nonneg h0 h1))

/-- Then the normalised image is real. -/
theorem image_real {b : Batch} (h : 0 < largest b) (j : Fin 16) : Real₂ (image b j) := by
  intro r c
  have h0 := norm_nonneg b j r c
  have h1 := norm_le_largest b j r c
  unfold image Ideal.div
  rw [if_neg h.ne']
  generalize norm b j r c = n at *
  generalize largest b = l at *
  induction l with
  | bot => exact absurd h (by simp)
  | top => exact ⟨0, by simp⟩
  | coe l =>
    induction n with
    | bot => exact absurd h0 (by simp)
    | top => exact absurd h1 (by simp)
    | coe n => exact ⟨n * l⁻¹, by rw [EReal.coe_mul, EReal.coe_inv]⟩

/-- And so is the mirrored one. -/
theorem mirrored_real {p : Fin 512 → Fin 512 → EReal} (h : Real₂ p) : Real₂ (mirrored p) := by
  intro R C
  unfold mirrored
  split_ifs
  · exact h _ _
  · exact ⟨0, rfl⟩

end Cert.Canny

end
-- ==== Proof.KNorm.lean ====
/- The kernel's norms and their running maximum. -/
module

public import proofs.«01_k».proof.Proof.KFinal
public import proofs.«01_k».proof.Proof.Norm

@[expose] public section

set_option maxRecDepth 16384

noncomputable section

namespace Cert.KernelIdeal.Hand

open Idealize.ShloMosaic Idealize.ShloMosaic.TcCoe Cert.Canny
open Cert.KernelIdeal Cert.KernelIdeal.Gen

/-- The norm of one staged image. -/
theorem norm_at (x : Vec Ideal S1x3x512x512 .f32) (r c : Fin 512) : k0_pay1 x (ix2 r c)
    = Ideal.sqrt (x (ix4 0 0 r c) * x (ix4 0 0 r c) + x (ix4 0 1 r c) * x (ix4 0 1 r c) + x (ix4 0 2 r c) * x (ix4 0 2 r c)) := by
  pointwise [k0_pay1]

theorem kept_at (x : Vec Ideal S1x3x512x512 .f32) (o : Fin 1) (r c : Fin 512) : k0_pay2 x (ix3 o r c) = k0_pay1 x (ix2 r c) := by
  pointwise [k0_pay2]

/-- One image's largest norm, by what it is at most. -/
theorem top_le (x : Vec Ideal S1x3x512x512 .f32) (u : EReal) : k0_pay3 x ≤ u ↔ ∀ r c : Fin 512, k0_pay1 x (ix2 r c) ≤ u := by
  pointwise [k0_pay3]
  rw [Finset.fold_max_le, show Ideal.ofBits .f32 4286578688#32 = ⊥ from word_bot]
  exact ⟨fun h r c => h.2 (r, c) (Finset.mem_univ _), fun h => ⟨bot_le, fun p _ => h p.1 p.2⟩⟩

theorem next_top (x : Vec Ideal S1x3x512x512 .f32) (v : EReal) : k0_pay4 (F := Ideal) x v = max v (k0_pay3 x) := by
  unfold k0_pay4
  exact Ideal.scalar_maximumf_def _ _

variable (m : (ℓ : Loc nD τ sig) → Buf (Elt Ideal) ℓ)

/-- The batch. -/
def batchK (c : Dev nD) : Batch := fun j k r q => m ((c : Thread nD τ).loc main_arg0) (ix4 j k r q)

theorem img_norm (c : Dev nD) (j : Fin 16) (r q : Fin 512) : k0_pay1 (img m c j.val) (ix2 r q) = norm (batchK m c) j r q := by
  rw [norm_at, img_read m c j 0 r q, img_read m c j 1 r q, img_read m c j 2 r q]; rfl

/-- The running maximum, by what it is at most. -/
theorem runTop_le (c : Dev nD) (u : EReal) (n : ℕ) (hn : n < 16) :
    runTop m c n ≤ u ↔ ∀ j : Fin 16, j.val ≤ n → ∀ r q, norm (batchK m c) j r q ≤ u := by
  induction n with
  | zero =>
    rw [runTop, top_le]
    constructor
    · intro h j hj r q
      obtain rfl : j = 0 := Fin.ext (by simpa using hj)
      rw [← img_norm]; exact h r q
    · intro h r q
      have := h 0 le_rfl r q
      rwa [← img_norm] at this
  | succ n ih =>
    rw [runTop, next_top, max_le_iff, ih (by omega), top_le]
    constructor
    · rintro ⟨h1, h2⟩ j hj r q
      rcases Nat.lt_or_ge j.val (n + 1) with hlt | hge
      · exact h1 j (by omega) r q
      · have e : j.val = n + 1 := by omega
        rw [← img_norm, e]; exact h2 r q
    · intro h
      refine ⟨fun j hj => h j (by omega), fun r q => ?_⟩
      have := h ⟨n + 1, hn⟩ le_rfl r q
      rwa [← img_norm] at this

theorem allTop_eq (c : Dev nD) : allTop m c = largest (batchK m c) :=
  eq_largest fun u => (runTop_le m c u 15 (by omega)).trans ⟨fun h j => h j (by omega), fun h j _ => h j⟩

/-- The kernel's normalised image is the image. -/
theorem planeK_eq (c : Dev nD) (j : Fin 16) : planeK (k0_pay2 (img m c j.val)) (allTop m c) = image (batchK m c) j := by
  funext r q
  unfold planeK image
  rw [allTop_eq, kept_at, img_norm]

end Cert.KernelIdeal.Hand

end
-- ==== Proof.RFilter.lean ====
/- What the reference's normalised image, its windows and its two filter responses hold, position by position. -/
module

public import proofs.«01_k».proof.Proof.Gen.ReferenceIdeal.Run
public import proofs.«01_k».proof.Proof.Plane
public import Idealize.ShloMosaic.Lib.Pointwise

@[expose] public section

set_option maxRecDepth 16384

noncomputable section

namespace Cert.ReferenceIdeal.Value

open Idealize.ShloMosaic Idealize.ShloMosaic.TcCoe Cert.Canny
open Cert.ReferenceIdeal Cert.ReferenceIdeal.Gen

variable (V0 : Valuation τ sig (Elt Ideal))

/-- The reference's normalised image, by row and column. -/
def planeR (i : Fin 16) (r c : Fin 512) : EReal := res_main_v13 V0 (ix4 i 0 r c)

/-- Two mirrored rows above. -/
theorem above_at (i : Fin 16) (R : Fin 514) (c : Fin 512) :
    res_main_call1_v3 V0 (ix4 i 0 R c) = mirrored (planeR V0 i) R.val (c.val + 2) := by
  pointwise [res_main_call1_v3]
  by_cases h : R.val < 2
  · refine (dif_pos h).trans ?_
    refine Eq.trans (congrArg (res_main_v13 V0) (a₂ := ix4 i 0 ⟨1 + (2 - (R.val + 1)), by omega⟩ c) ?_) ?_
    · funext a
      match a with
      | 0 => rfl
      | 1 => rfl
      | 2 => rfl
      | 3 => rfl
    exact (mirrored_eq (planeR V0 i) ⟨1 + (2 - (R.val + 1)), by omega⟩ c (by omega) (by omega)
      (by simp only [mir]; split_ifs <;> omega) (by simp only [mir]; split_ifs <;> omega)).symm
  · refine (dif_neg h).trans ?_
    exact (mirrored_eq (planeR V0 i) ⟨R.val - 2, by omega⟩ c (by omega) (by omega)
      (by simp only [mir]; split_ifs <;> omega) (by simp only [mir]; split_ifs <;> omega)).symm

/-- Two padded places that come from one place. -/
theorem mirrored_same (p : Fin 512 → Fin 512 → EReal) {R C R' C' : ℕ} (hR : R < 516) (hC : C < 516) (hR' : R' < 516) (hC' : C' < 516)
    (hr : mir R = mir R') (hc : mir C = mir C') : mirrored p R C = mirrored p R' C' :=
  (mirrored_eq p ⟨mir R', mir_lt hR'⟩ ⟨mir C', mir_lt hC'⟩ hR hC hr.symm hc.symm).trans (mirrored_eq p _ _ hR' hC' rfl rfl).symm

/-- And two below. -/
theorem below_at (i : Fin 16) (R : Fin 516) (c : Fin 512) :
    res_main_call1_v7 V0 (ix4 i 0 R c) = mirrored (planeR V0 i) R.val (c.val + 2) := by
  pointwise [res_main_call1_v7, above_at]
  by_cases h : R.val < 514
  · exact dif_pos h
  · refine (dif_neg h).trans ?_
    exact mirrored_same (R := 511 + (2 - (R.val - 514 + 1))) (C := c.val + 2) (planeR V0 i) (by omega) (by omega) (by omega) (by omega)
      (by simp only [mir]; split_ifs <;> omega) rfl

/-- And two columns to the left. -/
theorem left_at (i : Fin 16) (R : Fin 516) (C : Fin 514) :
    res_main_call1_v11 V0 (ix4 i 0 R C) = mirrored (planeR V0 i) R.val C.val := by
  pointwise [res_main_call1_v11, below_at]
  by_cases h : C.val < 2
  · refine (dif_pos h).trans ?_
    exact mirrored_same (R := R.val) (C := 1 + (2 - (C.val + 1)) + 2) (planeR V0 i) (by omega) (by omega) (by omega) (by omega)
      rfl (by simp only [mir]; split_ifs <;> omega)
  · refine (dif_neg h).trans ?_
    rw [show C.val - 2 + 2 = C.val by omega]

/-- And two to the right: the mirrored image. -/
theorem padded_at (i : Fin 16) (R C : Fin 516) :
    res_main_v14 V0 (ix4 i 0 R C) = mirrored (planeR V0 i) R.val C.val := by
  pointwise [res_main_v14, left_at]
  by_cases h : C.val < 514
  · exact dif_pos h
  · refine (dif_neg h).trans ?_
    exact mirrored_same (R := R.val) (C := 511 + (2 - (C.val - 514 + 1))) (planeR V0 i) (by omega) (by omega) (by omega) (by omega)
      rfl (by simp only [mir]; split_ifs <;> omega)

/-- The same at any number of the one channel. -/
theorem padded_one (i : Fin 16) (o : Fin 1) (R C : Fin 516) :
    res_main_v14 V0 (ix4 i o R C) = mirrored (planeR V0 i) R.val C.val := by
  obtain rfl : o = 0 := Subsingleton.elim _ _
  exact padded_at V0 i R C

/-- The five column windows. -/
theorem across_at (i : Fin 16) (b : Fin 5) (R : Fin 516) (c : Fin 512) :
    res_main_v20 V0 (ix4 i b R c) = mirrored (planeR V0 i) R.val (c.val + b.val) := by
  pointwise [res_main_v20, padded_one]
  split_ifs <;> exact congrArg (mirrored (planeR V0 i) R.val) (by omega)

/-- The twenty-five windows. -/
theorem windows_at (i : Fin 16) (k : Fin 25) (r c : Fin 512) :
    res_main_v26 V0 (ix4 i k r c) = mirrored (planeR V0 i) (r.val + k.val / 5) (c.val + k.val % 5) := by
  pointwise [res_main_v26, across_at]
  split_ifs <;> exact congrArg₂ (mirrored (planeR V0 i)) (by omega) (by omega)

/-- The weights of the reference's filters, by row and column. -/
def taps5x5 (x : FVec Ideal S1x1x5x5 .f32) (a b : Fin 5) : EReal := x (ix4 0 0 a b)

theorem sx_at (i : Fin 16) (r c : Fin 512) : res_main_v31 V0 (ix4 i 0 r c)
    = tapped (taps5x5 (V0 (Proc.devRef .tc main_arg1))) (mirrored (planeR V0 i)) r.val c.val := by
  pointwise [res_main_v31, windows_at]
  rfl

theorem sy_at (i : Fin 16) (r c : Fin 512) : res_main_v36 V0 (ix4 i 0 r c)
    = tapped (taps5x5 (V0 (Proc.devRef .tc main_arg2))) (mirrored (planeR V0 i)) r.val c.val := by
  pointwise [res_main_v36, windows_at]
  rfl

end Cert.ReferenceIdeal.Value

end
-- ==== Proof.RNorm.lean ====
/- The reference's norms, their largest and its normalised image, where its rescaling branch is not taken. -/
module

public import proofs.«01_k».proof.Proof.RFilter
public import proofs.«01_k».proof.Proof.Norm

@[expose] public section

set_option maxRecDepth 16384

noncomputable section

namespace Cert.ReferenceIdeal.Value

open Idealize.ShloMosaic Idealize.ShloMosaic.TcCoe Cert.Canny
open Cert.ReferenceIdeal Cert.ReferenceIdeal.Gen

variable (V0 : Valuation τ sig (Elt Ideal))

/-- The batch. -/
def batchR : Batch := fun j k r q => V0 (Proc.devRef .tc main_arg0) (ix4 j k r q)

/-- The smallest value of a batch is not below the threshold of the rescaling. -/
def Unscaled (x : FVec Ideal S16x3x512x512 .f32) : Prop :=
  ¬ Host.reduce FloatOps.minimumf x (constant S_ .f32 0x7F800000#32) reducesTo_S16x3x512x512_S_d0_1_2_3 h_S_ ix0 < Ideal.ofBits .f32 0xBA83126F#32

/-- The branch not taken, for any smallest value. -/
theorem branch (x y : FVec Ideal S16x3x512x512 .f32) (p : FVec Ideal S_ .f32) (h : ¬ p ix0 < Ideal.ofBits .f32 0xBA83126F#32) :
    select (broadcastInDim S16x3x512x512 ![] bcast_S_S16x3x512x512 (cmpf .olt p (constant S_ .f32 0xBA83126F#32))) y x = x := by
  funext i
  idx_vars i
  pointwise []
  exact if_neg h

theorem kept (h : Unscaled (V0 (Proc.devRef .tc main_arg0))) : res_main_v6 V0 = V0 (Proc.devRef .tc main_arg0) := by
  unfold res_main_v6
  exact branch _ _ _ h

theorem norm_at (h : Unscaled (V0 (Proc.devRef .tc main_arg0))) (j : Fin 16) (o : Fin 1) (r c : Fin 512) :
    res_main_v10 V0 (ix4 j o r c) = norm (batchR V0) j r c := by
  pointwise [res_main_v10, kept V0 h]
  rw [Fin.sum_univ_three]
  rfl

/-- Every value over one number. -/
theorem over_at (x : FVec Ideal S16x1x512x512 .f32) (p : FVec Ideal S_ .f32) (j : Fin 16) (r c : Fin 512) :
    Host.divf x (broadcastInDim S16x1x512x512 ![] bcast_S_S16x1x512x512 p) (ix4 j 0 r c) = Ideal.div (x (ix4 j 0 r c)) (p ix0) := by
  pointwise []

theorem top_eq (h : Unscaled (V0 (Proc.devRef .tc main_arg0))) :
    Host.reduce FloatOps.maximumf (res_main_v10 V0) (constant S_ .f32 0xFF800000#32) reducesTo_S16x1x512x512_S_d0_1_2_3 h_S_ ix0
      = largest (batchR V0) := by
  refine eq_largest fun u => (hostMax_le _ _ _ _ word_bot _ u).trans ⟨fun hu j r c => ?_, fun hu i _ => ?_⟩
  · rw [← norm_at V0 h j 0 r c]
    exact hu _ (funext fun a => a.elim0)
  · idx_vars i
    rw [norm_at V0 h]
    exact hu _ _ _

theorem planeR_eq (h : Unscaled (V0 (Proc.devRef .tc main_arg0))) (j : Fin 16) : planeR V0 j = image (batchR V0) j := by
  funext r c
  unfold planeR image res_main_v13
  rw [over_at, top_eq V0 h, norm_at V0 h]

end Cert.ReferenceIdeal.Value

end
-- ==== Proof.Given.lean ====
/- What the precondition says of the arguments, in plain facts. -/
module

public import proofs.«01_k».proof.Proof.RNorm
public import proofs.«01_k».proof.Proof.Gen.Pre_canny_tables

@[expose] public section

set_option maxRecDepth 16384

noncomputable section

namespace Cert.Canny

open Idealize.ShloMosaic Idealize.ShloMosaic.TcCoe
open Cert.ReferenceIdeal Cert.ReferenceIdeal.Gen Cert.ReferenceIdeal.Value

/-- The precondition's ten results are all true. -/
def Holds [Cert.Pre_canny_tables.Facts] (x0 : FVec Ideal S16x3x512x512 .f32) (x1 x2 : FVec Ideal S1x1x5x5 .f32) (x3 : FVec Ideal S8x1x3x3 .f32)
    (x4 : FVec Ideal S1x1x3x3 .f32) (x5 : IVec S8x2 32) : Prop :=
  (Cert.Pre_canny_tables.fn (F := Ideal) x0 x1 x2 x3 x4 x5).1 = (fun _ => 1#1)
  ∧ (Cert.Pre_canny_tables.fn (F := Ideal) x0 x1 x2 x3 x4 x5).2.1 = (fun _ => 1#1)
  ∧ (Cert.Pre_canny_tables.fn (F := Ideal) x0 x1 x2 x3 x4 x5).2.2.1 = (fun _ => 1#1)
  ∧ (Cert.Pre_canny_tables.fn (F := Ideal) x0 x1 x2 x3 x4 x5).2.2.2.1 = (fun _ => 1#1)
  ∧ (Cert.Pre_canny_tables.fn (F := Ideal) x0 x1 x2 x3 x4 x5).2.2.2.2.1 = (fun _ => 1#1)
  ∧ (Cert.Pre_canny_tables.fn (F := Ideal) x0 x1 x2 x3 x4 x5).2.2.2.2.2.1 = (fun _ => 1#1)
  ∧ (Cert.Pre_canny_tables.fn (F := Ideal) x0 x1 x2 x3 x4 x5).2.2.2.2.2.2.1 = (fun _ => 1#1)
  ∧ (Cert.Pre_canny_tables.fn (F := Ideal) x0 x1 x2 x3 x4 x5).2.2.2.2.2.2.2.1 = (fun _ => 1#1)
  ∧ (Cert.Pre_canny_tables.fn (F := Ideal) x0 x1 x2 x3 x4 x5).2.2.2.2.2.2.2.2.1 = (fun _ => 1#1)
  ∧ (Cert.Pre_canny_tables.fn (F := Ideal) x0 x1 x2 x3 x4 x5).2.2.2.2.2.2.2.2.2 = (fun _ => 1#1)

/-- The place among nine that each of the eight selection filters picks. -/
def place : Fin 8 → Fin 9
  | 0 => 1 | 1 => 7 | 2 => 3 | 3 => 5 | 4 => 0 | 5 => 8 | 6 => 2 | 7 => 6

/-- The two selections compared at each of the eight directions. -/
def pairOf : Fin 8 → Fin 2 → ℕ
  | 0, 0 => 0 | 0, 1 => 1 | 1, 0 => 4 | 1, 1 => 5 | 2, 0 => 2 | 2, 1 => 3 | 3, 0 => 6 | 3, 1 => 7
  | 4, 0 => 0 | 4, 1 => 1 | 5, 0 => 4 | 5, 1 => 5 | 6, 0 => 2 | 6, 1 => 3 | 7, 0 => 6 | 7, 1 => 7

/-- The facts used. -/
structure Given (x0 : FVec Ideal S16x3x512x512 .f32) (x1 x2 : FVec Ideal S1x1x5x5 .f32) (x3 : FVec Ideal S8x1x3x3 .f32)
    (x5 : IVec S8x2 32) : Prop where
  unscaled : Unscaled x0
  somewhere : ∃ j k r c, x0 (ix4 j k r c) ≠ 0
  real_x : Real₂ (taps5x5 x1)
  real_y : Real₂ (taps5x5 x2)
  vertical_x : ∀ a b, taps5x5 x1 a b = taps5x5 x1 a.rev b
  horizontal_x : ∀ a b, taps5x5 x1 a b = - taps5x5 x1 a b.rev
  vertical_y : ∀ a b, taps5x5 x2 a b = - taps5x5 x2 a.rev b
  horizontal_y : ∀ a b, taps5x5 x2 a b = taps5x5 x2 a b.rev
  selections : ∀ (k : Fin 8) (t : Fin 9), x3 (ix4 k 0 ⟨t.val / 3, by omega⟩ ⟨t.val % 3, by omega⟩) = if t = place k then 1 else 0
  pairs : ∀ (k : Fin 8) (b : Fin 2), x5 (ix2 k b) = BitVec.ofNat 32 (pairOf k b)

theorem oeq_at {s : Shape} (x y : FVec Ideal s .f32) (i : s.Idx) : cmpf .oeq x y i = 1#1 ↔ x i = y i := by
  pointwise []
  by_cases h : x i = y i <;> simp [h]

theorem olt_at {s : Shape} (x y : FVec Ideal s .f32) (i : s.Idx) : cmpf .olt x y i = 1#1 ↔ x i < y i := by
  pointwise []
  by_cases h : x i < y i <;> simp [h]

theorem ogt_at {s : Shape} (x y : FVec Ideal s .f32) (i : s.Idx) : cmpf .ogt x y i = 1#1 ↔ y i < x i := by
  pointwise []
  by_cases h : y i < x i <;> simp [h]

theorem ieq_at {s : Shape} (x y : IVec s 32) (i : s.Idx) : cmpi .eq x y i = 1#1 ↔ x i = y i := by
  show BitVec.ofBool (x i == y i) = 1#1 ↔ _
  by_cases h : x i = y i
  · simp [h]
  · rw [beq_false_of_ne h]
    simp [h]

theorem not_at {s : Shape} (p : IVec s 1) (i : s.Idx) : noti p i = 1#1 ↔ ¬ p i = 1#1 := by
  pointwise []
  generalize p i = b
  revert b
  decide

/-- A number whose size is below infinity is real. -/
theorem real_of_size {a : EReal} (h : max a (-a) < ⊤) : ∃ x : ℝ, a = x := by
  induction a with
  | bot => simp at h
  | top => simp at h
  | coe r => exact ⟨r, rfl⟩

theorem reversed2 (x : FVec Ideal S1x1x5x5 .f32) (a b : Fin 5) : Host.reverse [2] x (ix4 0 0 a b) = taps5x5 x a.rev b := by
  unfold taps5x5
  refine congrArg x ?_
  funext d
  match d with
  | 0 => rfl
  | 1 => rfl
  | 2 => rfl
  | 3 => rfl

theorem reversed3 (x : FVec Ideal S1x1x5x5 .f32) (a b : Fin 5) : Host.reverse [3] x (ix4 0 0 a b) = taps5x5 x a b.rev := by
  unfold taps5x5
  refine congrArg x ?_
  funext d
  match d with
  | 0 => rfl
  | 1 => rfl
  | 2 => rfl
  | 3 => rfl

theorem words_sel : ∀ n : Fin 72, Cert.Pre_canny_tables.lit0 n
    = if n.val % 9 = (place ⟨n.val / 9, by omega⟩).val then 0x3F800000#32 else 0#32 := by decide

theorem words_pair : ∀ n : Fin 16, Cert.Pre_canny_tables.lit1 n
    = BitVec.ofNat 32 (pairOf ⟨n.val / 2, by omega⟩ ⟨n.val % 2, by omega⟩) := by decide

section
variable [Cert.Pre_canny_tables.Facts] {x0 : FVec Ideal S16x3x512x512 .f32} {x1 x2 : FVec Ideal S1x1x5x5 .f32} {x3 : FVec Ideal S8x1x3x3 .f32}
    {x4 : FVec Ideal S1x1x3x3 .f32} {x5 : IVec S8x2 32} (h : Holds x0 x1 x2 x3 x4 x5)
include h

theorem given_unscaled : Unscaled x0 := by
  have e : noti (cmpf .olt (Host.reduce FloatOps.minimumf x0 (constant S_ .f32 0x7F800000#32) reducesTo_S16x3x512x512_S_d0_1_2_3 h_S_)
      (constant S_ .f32 0xBA83126F#32)) ix0 = 1#1 := congrFun h.1 ix0
  exact fun hlt => (not_at _ _).mp e ((olt_at _ _ _).mpr hlt)

theorem given_somewhere : ∃ j k r c, x0 (ix4 j k r c) ≠ 0 := by
  have e : cmpf .ogt (Host.reduce FloatOps.maximumf (Host.absf x0) (constant S_ .f32 0xFF800000#32) reducesTo_S16x3x512x512_S_d0_1_2_3 h_S_)
      (constant S_ .f32 0x00000000#32) ix0 = 1#1 := congrFun h.2.1 ix0
  by_contra hc
  push Not at hc
  refine absurd ((ogt_at _ _ _).mp e) (not_lt.mpr ?_)
  refine (hostMax_le _ _ _ _ word_bot _ _).mpr fun i _ => ?_
  idx_vars i
  show max (x0 _) (-(x0 _)) ≤ _
  rw [hc]
  simp [constant]

theorem given_real_x : Real₂ (taps5x5 x1) := fun a b =>
  real_of_size (lt_of_lt_of_eq ((olt_at _ _ _).mp (congrFun h.2.2.1 (ix4 0 0 a b))) word_top)

theorem given_real_y : Real₂ (taps5x5 x2) := fun a b =>
  real_of_size (lt_of_lt_of_eq ((olt_at _ _ _).mp (congrFun h.2.2.2.1 (ix4 0 0 a b))) word_top)

theorem given_vertical_x (a b : Fin 5) : taps5x5 x1 a b = taps5x5 x1 a.rev b :=
  ((oeq_at _ _ _).mp (congrFun h.2.2.2.2.1 (ix4 0 0 a b))).trans (reversed2 x1 a b)

theorem given_horizontal_x (a b : Fin 5) : taps5x5 x1 a b = - taps5x5 x1 a b.rev :=
  ((oeq_at _ _ _).mp (congrFun h.2.2.2.2.2.1 (ix4 0 0 a b))).trans (congrArg (fun z : EReal => -z) (reversed3 x1 a b))

theorem given_vertical_y (a b : Fin 5) : taps5x5 x2 a b = - taps5x5 x2 a.rev b :=
  ((oeq_at _ _ _).mp (congrFun h.2.2.2.2.2.2.1 (ix4 0 0 a b))).trans (congrArg (fun z : EReal => -z) (reversed2 x2 a b))

theorem given_horizontal_y (a b : Fin 5) : taps5x5 x2 a b = taps5x5 x2 a b.rev :=
  ((oeq_at _ _ _).mp (congrFun h.2.2.2.2.2.2.2.1 (ix4 0 0 a b))).trans (reversed3 x2 a b)

theorem given_selections (k : Fin 8) (t : Fin 9) :
    x3 (ix4 k 0 ⟨t.val / 3, by omega⟩ ⟨t.val % 3, by omega⟩) = if t = place k then 1 else 0 := by
  have e : cmpf .oeq x3 (fun i => Ideal.ofBits .f32 (Cert.Pre_canny_tables.lit0 (S8x1x3x3.rowMajor i)))
      (ix4 k 0 ⟨t.val / 3, by omega⟩ ⟨t.val % 3, by omega⟩) = 1#1 := congrFun h.2.2.2.2.2.2.2.2.1 _
  refine ((oeq_at _ _ _).mp e).trans ?_
  have hr : S8x1x3x3.rowMajor (ix4 k 0 ⟨t.val / 3, by omega⟩ ⟨t.val % 3, by omega⟩) = (⟨9 * k.val + t.val, by omega⟩ : Fin 72) := by
    apply Fin.ext
    refine (Shape.rowMajor_val_four _).trans ?_
    show ((k.val * 1 + 0) * 3 + t.val / 3) * 3 + t.val % 3 = 9 * k.val + t.val
    omega
  rw [hr, words_sel]
  have hk : (⟨(9 * k.val + t.val) / 9, by omega⟩ : Fin 8) = k := Fin.ext (by dsimp only; omega)
  have ht : (9 * k.val + t.val) % 9 = t.val := by omega
  simp only [hk, ht, Fin.ext_iff]
  split_ifs
  · exact Ideal.ofBits_one_f32
  · exact Ideal.ofBits_zero_f32

theorem given_pairs (k : Fin 8) (b : Fin 2) : x5 (ix2 k b) = BitVec.ofNat 32 (pairOf k b) := by
  have e : cmpi .eq x5 (fun i => Cert.Pre_canny_tables.lit1 (S8x2.rowMajor i)) (ix2 k b) = 1#1 := congrFun h.2.2.2.2.2.2.2.2.2 _
  refine ((ieq_at _ _ _).mp e).trans ?_
  have hr : S8x2.rowMajor (ix2 k b) = (⟨2 * k.val + b.val, by omega⟩ : Fin 16) := by
    apply Fin.ext
    refine (Shape.rowMajor_val_two _).trans ?_
    show k.val * 2 + b.val = 2 * k.val + b.val
    omega
  rw [hr, words_pair]
  have hk : (⟨(2 * k.val + b.val) / 2, by omega⟩ : Fin 8) = k := Fin.ext (by dsimp only; omega)
  have hb : (⟨(2 * k.val + b.val) % 2, by omega⟩ : Fin 2) = b := Fin.ext (by dsimp only; omega)
  simp only [hk, hb]

theorem given : Given x0 x1 x2 x3 x5 :=
  ⟨given_unscaled h, given_somewhere h, given_real_x h, given_real_y h, given_vertical_x h, given_horizontal_x h, given_vertical_y h,
    given_horizontal_y h, given_selections h, given_pairs h⟩
end

end Cert.Canny

end
-- ==== Proof.RMag.lean ====
/- What the reference's magnitude, its ring of zeros, its nine windows and the eight selected neighbours hold. -/
module

public import proofs.«01_k».proof.Proof.Given

@[expose] public section

set_option maxRecDepth 16384

noncomputable section

namespace Cert.ReferenceIdeal.Value

open Idealize.ShloMosaic Idealize.ShloMosaic.TcCoe Cert.Canny
open Cert.ReferenceIdeal Cert.ReferenceIdeal.Gen

variable (V0 : Valuation τ sig (Elt Ideal))

/-- The reference's two responses and their magnitude, by row and column. -/
def sxR (i : Fin 16) (r c : Fin 512) : EReal := res_main_v31 V0 (ix4 i 0 r c)
def syR (i : Fin 16) (r c : Fin 512) : EReal := res_main_v36 V0 (ix4 i 0 r c)
abbrev magR (i : Fin 16) : Fin 512 → Fin 512 → EReal := mag (sxR V0 i) (syR V0 i)

theorem v40_at (i : Fin 16) (o : Fin 1) (r c : Fin 512) : res_main_v40 V0 (ix4 i o r c) = magR V0 i r c := by
  obtain rfl : o = 0 := Subsingleton.elim _ _
  unfold magR mag sxR syR
  pointwise [res_main_v40]

theorem sitofp_none : FloatOps.sitofp (F := Ideal) FTy.f32 0#32 = (0 : EReal) := by
  show (((0#32 : BitVec 32).toInt : ℝ) : EReal) = 0
  simp

theorem v51_at (i : Fin 16) (o : Fin 1) (R C : Fin 514) : res_main_v51 V0 (ix4 i o R C) = ringed (magR V0 i) R.val C.val := by
  obtain rfl : o = 0 := Subsingleton.elim _ _
  pointwise [res_main_v51, v40_at]
  by_cases hin : (1 ≤ R.val ∧ R.val < 513) ∧ (1 ≤ C.val ∧ C.val < 513)
  · rw [dif_pos]
    · exact (ringed_in _ _ _ (by dsimp only; omega) (by dsimp only; omega)).symm
    · intro a
      match a with
      | 0 => exact ⟨Nat.zero_le _, Nat.mod_one _, (Nat.div_one _).trans_lt i.isLt⟩
      | 1 => exact ⟨Nat.zero_le _, Nat.mod_one _, (Nat.div_one _).trans_lt Nat.one_pos⟩
      | 2 => exact ⟨hin.1.1, Nat.mod_one _, (Nat.div_one _).trans_lt (show R.val - 1 < 512 by omega)⟩
      | 3 => exact ⟨hin.2.1, Nat.mod_one _, (Nat.div_one _).trans_lt (show C.val - 1 < 512 by omega)⟩
  · rw [ringed_out _ hin, dif_neg]
    · exact sitofp_none
    · intro hall
      have h2 : 1 ≤ R.val ∧ _ ∧ (R.val - 1) / 1 < 512 := hall 2
      have h3 : 1 ≤ C.val ∧ _ ∧ (C.val - 1) / 1 < 512 := hall 3
      omega

/-- The three column windows. -/
theorem v56_at (i : Fin 16) (b : Fin 3) (R : Fin 514) (c : Fin 512) :
    res_main_v56 V0 (ix4 i b R c) = ringed (magR V0 i) R.val (c.val + b.val) := by
  pointwise [res_main_v56, v51_at]
  split_ifs <;> exact congrArg (ringed (magR V0 i) R.val) (by omega)

/-- The nine windows. -/
def windows9 : FVec Ideal S16x9x512x512 .f32 :=
  concatenate S16x9x512x512 1 [⟨S16x3x512x512, ((extractStridedSlice S16x3x512x512 ![0, 0, 0, 0] (res_main_v56 V0) slices_S16x3x514x512_S16x3x512x512_0_0_0_0) : (⟨S16x3x512x512, .f32⟩ : BufTy).Contents (Elt Ideal))⟩, ⟨S16x3x512x512, ((extractStridedSlice S16x3x512x512 ![0, 0, 1, 0] (res_main_v56 V0) slices_S16x3x514x512_S16x3x512x512_0_0_1_0) : (⟨S16x3x512x512, .f32⟩ : BufTy).Contents (Elt Ideal))⟩, ⟨S16x3x512x512, ((extractStridedSlice S16x3x512x512 ![0, 0, 2, 0] (res_main_v56 V0) slices_S16x3x514x512_S16x3x512x512_0_0_2_0) : (⟨S16x3x512x512, .f32⟩ : BufTy).Contents (Elt Ideal))⟩] concatenates_S16x3x512x512_S16x3x512x512_S16x3x512x512_S16x9x512x512_d1

theorem windows9_at (i : Fin 16) (t : Fin 9) (r c : Fin 512) :
    windows9 V0 (ix4 i t r c) = ringed (magR V0 i) (r.val + t.val / 3) (c.val + t.val % 3) := by
  pointwise [windows9, v56_at]
  split_ifs <;> exact congrArg₂ (ringed (magR V0 i)) (by omega) (by omega)

/-- The eight selections. -/
def selected : FVec Ideal S16x8x512x512 .f32 :=
  Host.reduceAdd (mulf (broadcastInDim S16x8x9x512x512 ![0, 1, 2, 3, 4] bcast_S1x8x9x1x1_S16x8x9x512x512_0_1_2_3_4 (shapeCast _ (V0 (Proc.devRef .tc main_arg3)) shapeCasts_S8x1x3x3_S1x8x9x1x1)) (broadcastInDim S16x8x9x512x512 ![0, 1, 2, 3, 4] bcast_S16x1x9x512x512_S16x8x9x512x512_0_1_2_3_4 (broadcastInDim S16x1x9x512x512 ![0, 2, 3, 4] bcast_S16x9x512x512_S16x1x9x512x512_0_2_3_4 (windows9 V0)))) (constant S_ .f32 0x00000000#32) reducesTo_S16x8x9x512x512_S16x8x512x512_d2 h_S_

/-- A selection is its neighbour. -/
theorem selected_at (h : ∀ (k : Fin 8) (t : Fin 9), V0 (Proc.devRef .tc main_arg3) (ix4 k 0 ⟨t.val / 3, by omega⟩ ⟨t.val % 3, by omega⟩)
      = if t = place k then (1 : EReal) else 0) (i : Fin 16) (k : Fin 8) (r c : Fin 512) :
    selected V0 (ix4 i k r c) = ringed (magR V0 i) (r.val + (place k).val / 3) (c.val + (place k).val % 3) := by
  pointwise [selected, windows9_at]
  refine (Finset.sum_eq_single (place k) (fun t _ ht => ?_) (fun hn => absurd (Finset.mem_univ _) hn)).trans ?_
  · rw [h k t, if_neg ht, zero_mul]
  · rw [h k (place k), if_pos rfl, one_mul]

end Cert.ReferenceIdeal.Value

end
-- ==== Proof.Both.lean ====
/- The kernel's and the reference's filter responses are equal, and real; the second result. -/
module

public import proofs.«01_k».proof.Proof.KNorm
public import proofs.«01_k».proof.Proof.RMag

@[expose] public section

set_option maxRecDepth 16384

noncomputable section

namespace Cert.Canny

open Idealize.ShloMosaic Idealize.ShloMosaic.TcCoe
open Cert.KernelIdeal.Hand Cert.ReferenceIdeal.Value

/-- Five by five read through its reshape. -/
theorem reshaped (x : FVec Ideal KernelIdeal.S1x1x5x5 .f32) (a b : Fin 5) :
    shapeCast KernelIdeal.S5x5 x KernelIdeal.Gen.shapeCasts_S1x1x5x5_S5x5 (ix2 a b) = x (ix4 0 0 a b) := by
  pointwise []

/-- The kernel's first weights are the argument's. -/
theorem weights_x (m : (ℓ : Loc KernelIdeal.nD KernelIdeal.τ KernelIdeal.sig) → Buf (Elt Ideal) ℓ) (c : Dev KernelIdeal.nD) :
    taps5 (KernelIdeal.Gen.V m c KernelIdeal.main_v0) = taps5x5 (m ((c : Thread KernelIdeal.nD KernelIdeal.τ).loc KernelIdeal.main_arg1)) := by
  funext a b
  unfold taps5 taps5x5
  rw [host_v0]
  exact reshaped _ a b

theorem weights_y (m : (ℓ : Loc KernelIdeal.nD KernelIdeal.τ KernelIdeal.sig) → Buf (Elt Ideal) ℓ) (c : Dev KernelIdeal.nD) :
    taps5 (KernelIdeal.Gen.V m c KernelIdeal.main_v1) = taps5x5 (m ((c : Thread KernelIdeal.nD KernelIdeal.τ).loc KernelIdeal.main_arg2)) := by
  funext a b
  unfold taps5 taps5x5
  rw [host_v1]
  exact reshaped _ a b

theorem pay6_at (x : FVec Ideal KernelIdeal.S512x512 .f32) (r q : Fin 512) : KernelIdeal.Gen.k0_pay6 x (ix4 0 0 r q) = x (ix2 r q) := by
  pointwise [KernelIdeal.Gen.k0_pay6]

theorem pay7_at (x : FVec Ideal KernelIdeal.S512x512 .f32) (r q : Fin 512) : KernelIdeal.Gen.k0_pay7 x (ix4 0 0 r q) = x (ix2 r q) := by
  pointwise [KernelIdeal.Gen.k0_pay7]

/-- Two arrays stacked along the channels. -/
theorem stacked_0 (x y : FVec Ideal ReferenceIdeal.S16x1x512x512 .f32) (j : Fin 16) (r q : Fin 512) :
    concatenate ReferenceIdeal.S16x2x512x512 1 [⟨ReferenceIdeal.S16x1x512x512, x⟩, ⟨ReferenceIdeal.S16x1x512x512, y⟩]
      ReferenceIdeal.Gen.concatenates_S16x1x512x512_S16x1x512x512_S16x2x512x512_d1 (ix4 j 0 r q) = x (ix4 j 0 r q) := by
  pointwise []

theorem stacked_1 (x y : FVec Ideal ReferenceIdeal.S16x1x512x512 .f32) (j : Fin 16) (r q : Fin 512) :
    concatenate ReferenceIdeal.S16x2x512x512 1 [⟨ReferenceIdeal.S16x1x512x512, x⟩, ⟨ReferenceIdeal.S16x1x512x512, y⟩]
      ReferenceIdeal.Gen.concatenates_S16x1x512x512_S16x1x512x512_S16x2x512x512_d1 (ix4 j 1 r q) = y (ix4 j 0 r q) := by
  pointwise []

/-- The two programs are given the same arguments, of which the precondition holds. -/
structure Shared (m : (ℓ : Loc KernelIdeal.nD KernelIdeal.τ KernelIdeal.sig) → Buf (Elt Ideal) ℓ) (c : Dev KernelIdeal.nD)
    (V0 : Valuation ReferenceIdeal.τ ReferenceIdeal.sig (Elt Ideal)) : Prop where
  batch : batchR V0 = batchK m c
  taps_x : taps5x5 (V0 (Proc.devRef .tc ReferenceIdeal.main_arg1)) = taps5 (KernelIdeal.Gen.V m c KernelIdeal.main_v0)
  taps_y : taps5x5 (V0 (Proc.devRef .tc ReferenceIdeal.main_arg2)) = taps5 (KernelIdeal.Gen.V m c KernelIdeal.main_v1)
  given : Given (V0 (Proc.devRef .tc ReferenceIdeal.main_arg0)) (V0 (Proc.devRef .tc ReferenceIdeal.main_arg1))
    (V0 (Proc.devRef .tc ReferenceIdeal.main_arg2)) (V0 (Proc.devRef .tc ReferenceIdeal.main_arg3)) (V0 (Proc.devRef .tc ReferenceIdeal.main_arg5))

variable {m : (ℓ : Loc KernelIdeal.nD KernelIdeal.τ KernelIdeal.sig) → Buf (Elt Ideal) ℓ} {c : Dev KernelIdeal.nD}
  {V0 : Valuation ReferenceIdeal.τ ReferenceIdeal.sig (Elt Ideal)} (S : Shared m c V0)
include S

/-- The image both sides filter. -/
theorem Shared.plane (j : Fin 16) : planeR V0 j = KernelIdeal.Hand.planeK (KernelIdeal.Gen.k0_pay2 (img m c j.val)) (allTop m c) := by
  rw [planeK_eq, planeR_eq V0 S.given.unscaled, S.batch]

theorem Shared.plane_real (j : Fin 16) : Real₂ (mirrored (planeR V0 j)) := by
  rw [planeR_eq V0 S.given.unscaled]
  obtain ⟨j', k, r, q, h⟩ := S.given.somewhere
  exact mirrored_real (image_real (largest_pos (b := batchR V0) h) j)

/-- The kernel's x response is the reference's. -/
theorem Shared.sx (j : Fin 16) : sxAt (KernelIdeal.Gen.k0_pay2 (img m c j.val)) (allTop m c) (KernelIdeal.Gen.V m c KernelIdeal.main_v0) = sxR V0 j := by
  funext r q
  unfold sxAt sxR
  rw [sxK_at, sx_at, ← S.taps_x, ← S.plane]
  exact xGrouped_eq S.given.real_x (S.plane_real j) S.given.vertical_x S.given.horizontal_x _ _

/-- The kernel's y response is the reference's. -/
theorem Shared.sy (j : Fin 16) : syAt (KernelIdeal.Gen.k0_pay2 (img m c j.val)) (allTop m c) (KernelIdeal.Gen.V m c KernelIdeal.main_v1) = syR V0 j := by
  funext r q
  unfold syAt syR
  rw [syK_at, sy_at, ← S.taps_y, ← S.plane]
  exact yGrouped_eq S.given.real_y (S.plane_real j) S.given.vertical_y S.given.horizontal_y _ _

theorem Shared.sx_real (j : Fin 16) (r q : Fin 512) : ∃ x : ℝ, sxR V0 j r q = x := by
  unfold sxR
  rw [sx_at]
  exact tapped_isReal S.given.real_x (S.plane_real j) _ _

theorem Shared.sy_real (j : Fin 16) (r q : Fin 512) : ∃ x : ℝ, syR V0 j r q = x := by
  unfold syR
  rw [sy_at]
  exact tapped_isReal S.given.real_y (S.plane_real j) _ _

/-- The second result: the kernel's two responses are the reference's, stacked. -/
theorem Shared.second : responses m c = concatenate ReferenceIdeal.S16x2x512x512 1 [⟨ReferenceIdeal.S16x1x512x512, res_main_v36 V0⟩,
    ⟨ReferenceIdeal.S16x1x512x512, res_main_v31 V0⟩] ReferenceIdeal.Gen.concatenates_S16x1x512x512_S16x1x512x512_S16x2x512x512_d1 := by
  funext i
  obtain ⟨j, k, r, q, rfl⟩ : ∃ (j : Fin 16) (k : Fin 2) (r q : Fin 512), i = ix4 j k r q := by idx_vars i; exact ⟨_, _, _, _, rfl⟩
  have hk : k = 0 ∨ k = 1 := by omega
  rcases hk with rfl | rfl
  · refine (pay6_at _ r q).trans (Eq.trans (congrFun (congrFun (S.sy j) r) q) ?_)
    exact (stacked_0 _ _ j r q).symm
  · refine (pay7_at _ r q).trans (Eq.trans (congrFun (congrFun (S.sx j) r) q) ?_)
    exact (stacked_1 _ _ j r q).symm

end Cert.Canny

end
-- ==== Proof.Angle.lean ====
/- The direction's angle in eighths of a turn, rounded, told apart by comparisons of slopes: the facts on the real numbers. -/
module

public import Mathlib.Analysis.SpecialFunctions.Trigonometric.Arctan
public import Mathlib.Analysis.Complex.Trigonometric
public import Idealize.ShloMosaic.Lib.Pointwise

@[expose] public section

noncomputable section

namespace Cert.Canny

open Real

/-! ### Two bounds of π -/

/-- The first terms of the cosine's series, and of the sine's. -/
def cosTerms (y : ℝ) : ℝ := 1 - y ^ 2 / 2 + y ^ 4 / 24 - y ^ 6 / 720 + y ^ 8 / 40320 - y ^ 10 / 3628800 + y ^ 12 / 479001600
def sinTerms (y : ℝ) : ℝ := y - y ^ 3 / 6 + y ^ 5 / 120 - y ^ 7 / 5040 + y ^ 9 / 362880 - y ^ 11 / 39916800 + y ^ 13 / 6227020800

theorem exp_near {y : ℝ} (h0 : 0 ≤ y) (h1 : y ≤ 1) :
    ‖Complex.exp (y * Complex.I) - ((cosTerms y : ℂ) + (sinTerms y : ℂ) * Complex.I)‖ ≤ 1 / 10000000000 := by
  have hn : ‖(y : ℂ) * Complex.I‖ = y := by rw [norm_mul, Complex.norm_I, mul_one, Complex.norm_real, Real.norm_of_nonneg h0]
  have h := Complex.exp_bound (x := (y : ℂ) * Complex.I) (by rw [hn]; exact h1) (n := 14) (by norm_num)
  have e : ∑ m ∈ Finset.range 14, ((y : ℂ) * Complex.I) ^ m / (m.factorial : ℂ) = (cosTerms y : ℂ) + (sinTerms y : ℂ) * Complex.I := by
    have i2 : Complex.I ^ 2 = -1 := Complex.I_sq
    have i3 : Complex.I ^ 3 = -Complex.I := by rw [pow_succ, i2]; ring
    have i4 : Complex.I ^ 4 = 1 := by rw [show (4 : ℕ) = 2 * 2 from rfl, pow_mul, i2]; norm_num
    have i5 : Complex.I ^ 5 = Complex.I := by rw [pow_succ, i4, one_mul]
    have i6 : Complex.I ^ 6 = -1 := by rw [pow_succ, i5, ← sq, i2]
    have i7 : Complex.I ^ 7 = -Complex.I := by rw [pow_succ, i6]; ring
    have i8 : Complex.I ^ 8 = 1 := by rw [show (8 : ℕ) = 4 * 2 from rfl, pow_mul, i4]; norm_num
    have i9 : Complex.I ^ 9 = Complex.I := by rw [pow_succ, i8, one_mul]
    have i10 : Complex.I ^ 10 = -1 := by rw [pow_succ, i9, ← sq, i2]
    have i11 : Complex.I ^ 11 = -Complex.I := by rw [pow_succ, i10]; ring
    have i12 : Complex.I ^ 12 = 1 := by rw [show (12 : ℕ) = 4 * 3 from rfl, pow_mul, i4]; norm_num
    have i13 : Complex.I ^ 13 = Complex.I := by rw [pow_succ, i12, one_mul]
    simp only [Finset.sum_range_succ, Finset.sum_range_zero, mul_pow, i2, i3, i4, i5, i6, i7, i8, i9, i10, i11, i12, i13, Nat.factorial,
      cosTerms, sinTerms]
    push_cast
    ring
  rw [e, hn] at h
  refine h.trans ?_
  have hp : y ^ 14 ≤ 1 := pow_le_one₀ h0 h1
  have hp0 : 0 ≤ y ^ 14 := pow_nonneg h0 14
  norm_num [Nat.factorial]
  nlinarith

theorem cos_near {y : ℝ} (h0 : 0 ≤ y) (h1 : y ≤ 1) : |cos y - cosTerms y| ≤ 1 / 10000000000 := by
  refine le_trans ?_ (exp_near h0 h1)
  refine le_trans (le_of_eq ?_) (Complex.abs_re_le_norm _)
  congr 1
  simp [Complex.exp_ofReal_mul_I_re]

theorem sin_near {y : ℝ} (h0 : 0 ≤ y) (h1 : y ≤ 1) : |sin y - sinTerms y| ≤ 1 / 10000000000 := by
  refine le_trans ?_ (exp_near h0 h1)
  refine le_trans (le_of_eq ?_) (Complex.abs_im_le_norm _)
  congr 1
  simp [Complex.exp_ofReal_mul_I_im]

/-- A quarter of π as the float word has it. -/
def eighth : ℝ := 13176795 / 16777216

theorem pi_below : π ≤ 4 * eighth := by
  by_contra h
  push Not at h
  have hc := abs_le.mp (cos_near (y := eighth) (by norm_num [eighth]) (by norm_num [eighth]))
  have hs := abs_le.mp (sin_near (y := eighth) (by norm_num [eighth]) (by norm_num [eighth]))
  have h1 : sin eighth ≤ sin (π / 4) :=
    sin_le_sin_of_le_of_le_pi_div_two (by norm_num [eighth]; linarith [pi_pos]) (by linarith [pi_pos]) (by linarith)
  have h2 : cos (π / 4) ≤ cos eighth := cos_le_cos_of_nonneg_of_le_pi (by norm_num [eighth]) (by linarith [pi_pos]) (by linarith)
  rw [sin_pi_div_four] at h1
  rw [cos_pi_div_four] at h2
  have : (cosTerms eighth : ℝ) + 1 / 1000000000 < sinTerms eighth := by norm_num [cosTerms, sinTerms, eighth]
  linarith

theorem pi_above : 4 * eighth - 91 / 1000000000 ≤ π := by
  by_contra h
  push Not at h
  set q : ℝ := eighth - 91 / 4000000000 with hq
  have q0 : 0 ≤ q := by norm_num [hq, eighth]
  have q1 : q ≤ 1 := by norm_num [hq, eighth]
  have hc := abs_le.mp (cos_near q0 q1)
  have hs := abs_le.mp (sin_near q0 q1)
  have hlt : π / 4 ≤ q := by linarith
  have h1 : sin (π / 4) ≤ sin q := sin_le_sin_of_le_of_le_pi_div_two (by linarith [pi_pos]) (by linarith [one_le_pi_div_two]) hlt
  have h2 : cos q ≤ cos (π / 4) := cos_le_cos_of_nonneg_of_le_pi (by linarith [pi_pos]) (by linarith [one_le_pi_div_two]) hlt
  rw [sin_pi_div_four] at h1
  rw [cos_pi_div_four] at h2
  have : (sinTerms q : ℝ) + 1 / 2000000000 < cosTerms q := by norm_num [cosTerms, sinTerms, hq, eighth]
  linarith

/-! ### The angles of the two slopes -/

theorem sqrt_two_bounds : (1.41421356237 : ℝ) ≤ √2 ∧ √2 ≤ 1.41421356238 := by
  constructor
  · exact Real.le_sqrt_of_sq_le (by norm_num)
  · exact Real.sqrt_le_iff.mpr ⟨by norm_num, by norm_num⟩

/-- Half of a half of a right angle has the slope √2 − 1. -/
theorem arctan_eighth : arctan (√2 - 1) = π / 8 := by
  have b := sqrt_two_bounds
  have h2 : √2 * √2 = 2 := Real.mul_self_sqrt (by norm_num)
  have h := arctan_add (x := √2 - 1) (y := √2 - 1) (by nlinarith)
  rw [show ((√2 - 1) + (√2 - 1)) / (1 - (√2 - 1) * (√2 - 1)) = 1 by
    rw [div_eq_one_iff_eq (by nlinarith)]; nlinarith, arctan_one] at h
  linarith

/-- A small slope's angle is at least 99 hundredths of it. -/
theorem arctan_small {u : ℝ} (h0 : 0 ≤ u) (h1 : u ≤ 1 / 100) : 99 / 100 * u ≤ arctan u := by
  have ha0 : 0 ≤ arctan u := arctan_nonneg.mpr h0
  have ha1 : arctan u ≤ 1 := by
    have h := arctan_strictMono.monotone (show u ≤ 1 by linarith)
    rw [arctan_one] at h
    linarith [pi_le_four]
  have hs : sin (arctan u) ≤ arctan u := by
    have h := (abs_le.mp (sin_bound (x := arctan u) (by rwa [abs_of_nonneg ha0]))).2
    rw [abs_of_nonneg ha0] at h
    have h3 : arctan u ^ 5 ≤ arctan u ^ 3 := pow_le_pow_of_le_one ha0 ha1 (by norm_num)
    have h4 : 0 ≤ arctan u ^ 3 := pow_nonneg ha0 3
    linarith
  rw [sin_arctan] at hs
  refine le_trans ?_ hs
  rw [le_div_iff₀ (by positivity)]
  have : √(1 + u ^ 2) ≤ 101 / 100 := Real.sqrt_le_iff.mpr ⟨by norm_num, by nlinarith⟩
  nlinarith

/-- Below a slope by `d` the angle is below by at least eight tenths of `d`. -/
theorem arctan_gap {s t : ℝ} (hs : 0 ≤ s) (ht : t ≤ 42 / 100) (h : s ≤ t) (hd : t - s ≤ 1 / 100) :
    82 / 100 * (t - s) ≤ arctan t - arctan s := by
  have e := arctan_add (x := t) (y := -s) (by nlinarith)
  rw [arctan_neg] at e
  rw [sub_eq_add_neg (arctan t), e]
  have hden : (1 : ℝ) ≤ 1 - t * -s := by nlinarith
  have hden' : 1 - t * -s ≤ 118 / 100 := by nlinarith
  have hu : 82 / 99 * (t - s) ≤ (t + -s) / (1 - t * -s) := by
    rw [le_div_iff₀ (by linarith)]
    nlinarith [mul_le_mul_of_nonneg_left hden' (sub_nonneg.mpr h)]
  have hu1 : (t + -s) / (1 - t * -s) ≤ 1 / 100 := by
    rw [div_le_iff₀ (by linarith)]
    nlinarith
  have := arctan_small (u := (t + -s) / (1 - t * -s)) (by apply div_nonneg <;> linarith) hu1
  linarith

/-- The comparisons' slope, as the float word has it. -/
def slope : ℝ := 13898701 / 33554432
/-- The share of the longer leg left out on each side. -/
def margin : ℝ := 1 / 8388608

theorem arctan_low : arctan (slope - margin) ≤ π / 8 - 8 / 100000000 := by
  have b := sqrt_two_bounds
  norm_num at b
  have e : slope - margin = 13898697 / 33554432 := by norm_num [slope, margin]
  rw [e]
  have h := arctan_gap (s := 13898697 / 33554432) (t := √2 - 1) (by norm_num) (by linarith) (by linarith) (by linarith)
  rw [arctan_eighth] at h
  linarith

theorem arctan_high : π / 8 + 8 / 100000000 ≤ arctan (slope + margin) := by
  have b := sqrt_two_bounds
  norm_num at b
  have e : slope + margin = 13898705 / 33554432 := by norm_num [slope, margin]
  rw [e]
  have h := arctan_gap (s := √2 - 1) (t := 13898705 / 33554432) (by linarith) (by norm_num) (by linarith) (by linarith)
  rw [arctan_eighth] at h
  linarith

/-! ### The angle of a slope -/

theorem slope_flat {s : ℝ} (h : |s| ≤ slope - margin) : |arctan s| ≤ π / 8 - 8 / 100000000 := by
  have h' := abs_le.mp h
  refine abs_le.mpr ⟨?_, (arctan_strictMono.monotone h'.2).trans arctan_low⟩
  have := arctan_strictMono.monotone h'.1
  rw [arctan_neg] at this
  linarith [arctan_low]

theorem slope_middle {s : ℝ} (h1 : slope + margin ≤ s) (h2 : s * (slope + margin) ≤ 1) :
    π / 8 + 8 / 100000000 ≤ arctan s ∧ arctan s ≤ 3 * π / 8 - 8 / 100000000 := by
  have hp : (0 : ℝ) < slope + margin := by norm_num [slope, margin]
  have h : s ≤ (slope + margin)⁻¹ := by rwa [← one_div, le_div_iff₀ hp]
  have e := arctan_strictMono.monotone h
  rw [arctan_inv_of_pos hp] at e
  have := arctan_strictMono.monotone h1
  have := arctan_high
  exact ⟨by linarith, by linarith⟩

theorem slope_steep {s : ℝ} (hs : 0 < s) (h : 1 ≤ s * (slope - margin)) : 3 * π / 8 + 8 / 100000000 ≤ arctan s := by
  have hp : (0 : ℝ) < slope - margin := by norm_num [slope, margin]
  have h' : (slope - margin)⁻¹ ≤ s := by rwa [← one_div, div_le_iff₀ hp]
  have e := arctan_strictMono.monotone h'
  rw [arctan_inv_of_pos hp] at e
  have := arctan_low
  linarith

/-- The angle of a direction. -/
def angle (y x : ℝ) : ℝ :=
  if 0 < x then arctan (y / x) else if x < 0 then (if 0 ≤ y then arctan (y / x) + π else arctan (y / x) - π)
  else if 0 < y then π / 2 else if y < 0 then -(π / 2) else 0

/-- A number within half of an integer rounds to it. -/
theorem round_of {z : ℝ} (k : ℤ) (h1 : (k : ℝ) - 1 / 2 < z) (h2 : z < k + 1 / 2) : Idealize.ShloMosaic.Ideal.roundHalfEven z = k := by
  unfold Idealize.ShloMosaic.Ideal.roundHalfEven
  by_cases h : (k : ℝ) ≤ z
  · have e : ⌊z⌋ = k := Int.floor_eq_iff.mpr ⟨h, by linarith⟩
    simp only [e]
    rw [if_pos (by linarith)]
  · have e : ⌊z⌋ = k - 1 := Int.floor_eq_iff.mpr ⟨by push_cast; linarith, by push_cast; linarith⟩
    simp only [e]
    rw [if_neg (by push_cast; linarith), if_pos (by push_cast; linarith)]
    ring

/-- An angle within half of a multiple of the word for π/4 rounds to it. -/
theorem eighths_of {a : ℝ} (k : ℤ) (h1 : (k - 1 / 2) * eighth < a) (h2 : a < (k + 1 / 2) * eighth) :
    Idealize.ShloMosaic.Ideal.roundHalfEven (a / eighth) = k := by
  have hp : (0 : ℝ) < eighth := by norm_num [eighth]
  exact round_of k (by rwa [lt_div_iff₀ hp]) (by rwa [div_lt_iff₀ hp])

/-- The sector by comparisons. -/
def sectorR (y x : ℝ) : ℤ :=
  if |y| ≤ slope * |x| then 0 else if |x| ≤ slope * |y| then 2 else if 0 < y * x then 1 else 3

/-- The direction clears the sectors' boundaries. -/
def Clear (y x : ℝ) : Prop := margin * |x| ≤ |(|y| - slope * |x|)| ∧ margin * |y| ≤ |(|x| - slope * |y|)|

/-- The rounded angle is the sector, up to half turns. -/
theorem eighths_sector {y x : ℝ} (h : Clear y x) : ∃ k : ℤ, Idealize.ShloMosaic.Ideal.roundHalfEven (angle y x / eighth) = k
    ∧ -4 ≤ k ∧ k ≤ 4 ∧ k % 4 = sectorR y x := by
  have p1 := pi_below
  have p2 := pi_above
  have hw : eighth = 13176795 / 16777216 := rfl
  have hm : margin = 1 / 8388608 := rfl
  have hs : slope = 13898701 / 33554432 := rfl
  have ax := abs_nonneg x
  have ay := abs_nonneg y
  unfold sectorR
  by_cases hA : |y| ≤ slope * |x|
  · rw [if_pos hA]
    have hA' : |y| ≤ (slope - margin) * |x| := by
      have := h.1
      rw [abs_of_nonpos (show |y| - slope * |x| ≤ 0 by linarith)] at this
      linarith
    rcases lt_trichotomy x 0 with hx | hx | hx
    · have hf := abs_le.mp (slope_flat (s := y / x) (by rw [abs_div, div_le_iff₀ (abs_pos.mpr hx.ne)]; exact hA'))
      by_cases hy : 0 ≤ y
      · have hneg : arctan (y / x) ≤ 0 := arctan_le_zero.mpr (div_nonpos_of_nonneg_of_nonpos hy hx.le)
        refine ⟨4, ?_, by norm_num, by norm_num, by norm_num⟩
        rw [angle, if_neg (by linarith), if_pos hx, if_pos hy]
        exact eighths_of 4 (by push_cast; linarith) (by push_cast; linarith)
      · have hpos : 0 ≤ arctan (y / x) := arctan_nonneg.mpr (div_nonneg_of_nonpos (by linarith) hx.le)
        refine ⟨-4, ?_, by norm_num, by norm_num, by norm_num⟩
        rw [angle, if_neg (by linarith), if_pos hx, if_neg hy]
        exact eighths_of (-4) (by push_cast; linarith) (by push_cast; linarith)
    · have hy : y = 0 := by
        rw [hx, abs_zero, mul_zero] at hA
        exact abs_nonpos_iff.mp hA
      refine ⟨0, ?_, by norm_num, by norm_num, by norm_num⟩
      rw [angle, hx, hy]
      simp only [lt_irrefl, if_false]
      exact eighths_of 0 (by push_cast; linarith) (by push_cast; linarith)
    · have hf := abs_le.mp (slope_flat (s := y / x) (by rw [abs_div, div_le_iff₀ (abs_pos.mpr hx.ne')]; exact hA'))
      refine ⟨0, ?_, by norm_num, by norm_num, by norm_num⟩
      rw [angle, if_pos hx]
      exact eighths_of 0 (by push_cast; linarith) (by push_cast; linarith)
  · rw [if_neg hA]
    push Not at hA
    have hy0 : 0 < |y| := lt_of_le_of_lt (mul_nonneg (by norm_num [slope]) ax) hA
    by_cases hB : |x| ≤ slope * |y|
    · rw [if_pos hB]
      have hB' : |x| ≤ (slope - margin) * |y| := by
        have := h.2
        rw [abs_of_nonpos (show |x| - slope * |y| ≤ 0 by linarith)] at this
        linarith
      rcases lt_trichotomy y 0 with hy | hy | hy
      · refine ⟨-2, ?_, by norm_num, by norm_num, by norm_num⟩
        rw [abs_of_neg hy] at hB'
        rcases lt_trichotomy x 0 with hx | hx | hx
        · rw [abs_of_neg hx] at hB'
          have hst := slope_steep (s := y / x) (div_pos_of_neg_of_neg hy hx)
            (by rw [div_mul_eq_mul_div, le_div_iff_of_neg hx]; linarith)
          have := arctan_lt_pi_div_two (y / x)
          rw [angle, if_neg (by linarith), if_pos hx, if_neg (by linarith)]
          exact eighths_of (-2) (by push_cast; linarith) (by push_cast; linarith)
        · rw [angle, hx]
          simp only [lt_irrefl, if_false]
          rw [if_neg (by linarith), if_pos hy]
          exact eighths_of (-2) (by push_cast; linarith) (by push_cast; linarith)
        · rw [abs_of_pos hx] at hB'
          have hst := slope_steep (s := -y / x) (div_pos (by linarith) hx)
            (by rw [div_mul_eq_mul_div, le_div_iff₀ hx]; linarith)
          rw [neg_div, arctan_neg] at hst
          have := neg_pi_div_two_lt_arctan (y / x)
          rw [angle, if_pos hx]
          exact eighths_of (-2) (by push_cast; linarith) (by push_cast; linarith)
      · rw [hy, abs_zero] at hy0
        exact absurd hy0 (lt_irrefl _)
      · refine ⟨2, ?_, by norm_num, by norm_num, by norm_num⟩
        rw [abs_of_pos hy] at hB'
        rcases lt_trichotomy x 0 with hx | hx | hx
        · rw [abs_of_neg hx] at hB'
          have hst := slope_steep (s := -(y / x)) (by have := div_neg_of_pos_of_neg hy hx; linarith)
            (by rw [← div_neg, div_mul_eq_mul_div, le_div_iff₀ (by linarith)]; linarith)
          rw [arctan_neg] at hst
          have := neg_pi_div_two_lt_arctan (y / x)
          rw [angle, if_neg (by linarith), if_pos hx, if_pos hy.le]
          exact eighths_of 2 (by push_cast; linarith) (by push_cast; linarith)
        · rw [angle, hx]
          simp only [lt_irrefl, if_false]
          rw [if_pos hy]
          exact eighths_of 2 (by push_cast; linarith) (by push_cast; linarith)
        · rw [abs_of_pos hx] at hB'
          have hst := slope_steep (s := y / x) (div_pos hy hx) (by rw [div_mul_eq_mul_div, le_div_iff₀ hx]; linarith)
          have := arctan_lt_pi_div_two (y / x)
          rw [angle, if_pos hx]
          exact eighths_of 2 (by push_cast; linarith) (by push_cast; linarith)
    · rw [if_neg hB]
      push Not at hB
      have hx0 : 0 < |x| := lt_of_le_of_lt (mul_nonneg (by norm_num [slope]) ay) hB
      have hA' : (slope + margin) * |x| ≤ |y| := by
        have := h.1
        rw [abs_of_nonneg (show 0 ≤ |y| - slope * |x| by linarith)] at this
        linarith
      have hB' : (slope + margin) * |y| ≤ |x| := by
        have := h.2
        rw [abs_of_nonneg (show 0 ≤ |x| - slope * |y| by linarith)] at this
        linarith
      have hmid := slope_middle (s := |y| / |x|) (by rw [le_div_iff₀ hx0]; exact hA')
        (by rw [div_mul_eq_mul_div, div_le_iff₀ hx0]; linarith)
      rcases lt_or_gt_of_ne (abs_pos.mp hx0) with hx | hx <;> rcases lt_or_gt_of_ne (abs_pos.mp hy0) with hy | hy
      · rw [abs_of_neg hx, abs_of_neg hy, neg_div_neg_eq] at hmid
        refine ⟨-3, ?_, by norm_num, by norm_num, by rw [if_pos (mul_pos_of_neg_of_neg hy hx)]; norm_num⟩
        rw [angle, if_neg (by linarith), if_pos hx, if_neg (by linarith)]
        exact eighths_of (-3) (by push_cast; linarith) (by push_cast; linarith)
      · rw [abs_of_neg hx, abs_of_pos hy, div_neg, arctan_neg] at hmid
        refine ⟨3, ?_, by norm_num, by norm_num, by rw [if_neg (not_lt.mpr (mul_nonpos_of_nonneg_of_nonpos hy.le hx.le))]; norm_num⟩
        rw [angle, if_neg (by linarith), if_pos hx, if_pos hy.le]
        exact eighths_of 3 (by push_cast; linarith) (by push_cast; linarith)
      · rw [abs_of_pos hx, abs_of_neg hy, neg_div, arctan_neg] at hmid
        refine ⟨-1, ?_, by norm_num, by norm_num, by rw [if_neg (not_lt.mpr (mul_nonpos_of_nonpos_of_nonneg hy.le hx.le))]; norm_num⟩
        rw [angle, if_pos hx]
        exact eighths_of (-1) (by push_cast; linarith) (by push_cast; linarith)
      · rw [abs_of_pos hx, abs_of_pos hy] at hmid
        refine ⟨1, ?_, by norm_num, by norm_num, by rw [if_pos (mul_pos hy hx)]; norm_num⟩
        rw [angle, if_pos hx]
        exact eighths_of 1 (by push_cast; linarith) (by push_cast; linarith)

end Cert.Canny

end
-- ==== Proof.RTurn.lean ====
/- The reference's direction index, and the two selections it looks up. -/
module

public import proofs.«01_k».proof.Proof.RMag
public import proofs.«01_k».proof.Proof.Angle
public import Idealize.ShloMosaic.Lib.ReduceAll

@[expose] public section

set_option maxRecDepth 16384

noncomputable section

namespace Cert.ReferenceIdeal.Value

open Idealize.ShloMosaic Idealize.ShloMosaic.TcCoe Cert.Canny
open Cert.ReferenceIdeal Cert.ReferenceIdeal.Gen

variable (V0 : Valuation τ sig (Elt Ideal))

theorem word_four : Ideal.ofBits .f32 0x40800000#32 = ((4 : ℝ) : EReal) := by
  simp [Ideal.ofBits, Ideal.ieee, -EReal.coe_mul]; norm_num
theorem word_eight : Ideal.ofBits .f32 0x41000000#32 = ((8 : ℝ) : EReal) := by
  simp [Ideal.ofBits, Ideal.ieee, -EReal.coe_mul]; norm_num
theorem word_eighth : Ideal.ofBits .f32 0x3F490FDB#32 = (eighth : EReal) := by
  simp [Ideal.ofBits, Ideal.ieee, eighth, -EReal.coe_mul]; norm_num
theorem word_slope : tanWord = (Cert.Canny.slope : EReal) := by
  simp [tanWord, Ideal.ofBits, Ideal.ieee, Cert.Canny.slope, -EReal.coe_mul]; norm_num
theorem word_margin : Ideal.ofBits .f32 0x34000000#32 = (margin : EReal) := by
  simp [Ideal.ofBits, Ideal.ieee, margin, -EReal.coe_mul]; norm_num
theorem word_eps : ∃ e : ℝ, epsWord = e := by
  simp [epsWord, Ideal.ofBits, Ideal.ieee, -EReal.coe_mul]

/-- The remainder by eight of a number between 0 and 8. -/
theorem remainder_eight (n : ℤ) (h0 : 0 ≤ n) (h8 : n ≤ 8) : Ideal.remf (((n : ℝ)) : EReal) ((8 : ℝ) : EReal) = (((n % 8 : ℤ) : ℝ) : EReal) := by
  show (if (8 : ℝ) = 0 then (⊥ : EReal) else (((n : ℝ) - 8 * (Ideal.truncInt ((n : ℝ) / 8) : ℝ) : ℝ) : EReal)) = _
  rw [if_neg (by norm_num)]
  have hn : (0 : ℝ) ≤ n := by exact_mod_cast h0
  have e : Ideal.truncInt ((n : ℝ) / 8) = n / 8 := by
    unfold Ideal.truncInt
    rw [if_pos (by positivity)]
    refine Int.floor_eq_iff.mpr ?_
    have h1 : (8 : ℤ) * (n / 8) ≤ n := by omega
    have h2 : n < 8 * (n / 8) + 8 := by omega
    have h1' : (8 : ℝ) * ((n / 8 : ℤ) : ℝ) ≤ n := by exact_mod_cast h1
    have h2' : (n : ℝ) < 8 * ((n / 8 : ℤ) : ℝ) + 8 := by exact_mod_cast h2
    constructor <;> linarith
  rw [e]
  congr 1
  have : n - 8 * (n / 8) = n % 8 := by omega
  exact_mod_cast this

/-- A small natural number as a 32-bit word. -/
theorem word_of (n : ℤ) (h0 : 0 ≤ n) (h8 : n < 8) : Ideal.fptosi 32 (((n : ℝ)) : EReal) = BitVec.ofInt 32 n := by
  have hn : (0 : ℝ) ≤ n := by exact_mod_cast h0
  show BitVec.ofInt 32 (max _ (min _ (if (0 : ℝ) ≤ (n : ℝ) then ⌊(n : ℝ)⌋ else ⌈(n : ℝ)⌉))) = _
  rw [if_pos hn, Int.floor_intCast]
  congr 1
  norm_num
  omega

/-- A quotient of reals. -/
theorem div_eighth (a : ℝ) : Ideal.div (a : EReal) (eighth : EReal) = ((a / eighth : ℝ) : EReal) := by
  unfold Ideal.div
  have h : (eighth : EReal) ≠ 0 := by
    rw [Ne, EReal.coe_eq_zero]
    norm_num [eighth]
  rw [if_neg h, ← EReal.coe_inv, ← EReal.coe_mul, div_eq_mul_inv]

section
variable {i : Fin 16} {r c : Fin 512} {y x : ℝ} {k : ℤ}
  (hy : sxR V0 i r c = (y : EReal)) (hx : syR V0 i r c + epsWord = (x : EReal))
  (hk : Ideal.roundHalfEven (angle y x / eighth) = k) (h0 : -4 ≤ k) (h1 : k ≤ 4)
include hy hx hk h0 h1

theorem v2_at : res_main_call3_v2 V0 (ix4 i 0 r c) = ((((k + 4) % 8 : ℤ) : ℝ) : EReal) := by
  pointwise [res_main_call3_v2, res_main_call3_v0]
  rw [show res_main_v31 V0 (ix4 i 0 r c) = (y : EReal) from hy,
    show @HAdd.hAdd EReal EReal EReal _ (res_main_v36 V0 (ix4 i 0 r c)) (Ideal.ofBits FTy.f32 925353388#32) = (x : EReal) from hx, word_four, word_eighth,
    show id (constant (F := Ideal) S_ FTy.f32 1090519040#32) ix0 = ((8 : ℝ) : EReal) from word_eight,
    show Ideal.atan2 (y : EReal) (x : EReal) = (angle y x : EReal) from rfl, div_eighth,
    show Ideal.liftRound Ideal.roundHalfEven ((angle y x / eighth : ℝ) : EReal)
      = ((Ideal.roundHalfEven (angle y x / eighth) : ℝ) : EReal) from rfl, hk, ← EReal.coe_add]
  rw [← remainder_eight (k + 4) (by omega) (by omega)]
  push_cast
  rfl

theorem v50_at : res_main_v50 V0 (ix4 i 0 r c) = BitVec.ofInt 32 ((k + 4) % 8) := by
  pointwise [res_main_v50, res_main_call3_v0]
  have hnn : ¬ @LT.lt EReal _ (res_main_call3_v2 V0 (ix4 i 0 r c)) 0 := by
    rw [v2_at V0 hy hx hk h0 h1, not_lt, ← EReal.coe_zero, EReal.coe_le_coe_iff]
    exact_mod_cast Int.emod_nonneg _ (by norm_num)
  have hnn8 : ¬ id (constant (F := Ideal) S_ FTy.f32 1090519040#32) ix0 < (0 : EReal) := by
    rw [show id (constant (F := Ideal) S_ FTy.f32 1090519040#32) ix0 = ((8 : ℝ) : EReal) from word_eight, not_lt, ← EReal.coe_zero, EReal.coe_le_coe_iff]
    norm_num
  rw [decide_eq_false hnn, decide_eq_false hnn8]
  rw [show IntOp.cmpi CmpIPredicate.ne (BitVec.ofBool false) (BitVec.ofBool false) = 0#1 from rfl]
  rw [show ∀ b : BitVec 1, IntOp.andi 0#1 b = 0#1 from by decide]
  rw [show ∀ a b : EReal, Scalar.select 0#1 a b = b from fun _ _ => rfl, v2_at V0 hy hx hk h0 h1]
  exact word_of _ (Int.emod_nonneg _ (by norm_num)) (Int.emod_lt_of_pos _ (by norm_num))

end

/-- The rows of a table looked up at an array of words. -/
theorem lookup_at (x : IVec S8x2 32) (idx : IVec S16x1x512x512x1 32) (i : Fin 16) (r c : Fin 512) (b : Fin 2) :
    Host.gather gather_S8x2_S16x1x512x512x1_S16x1x512x512x2_4_0_n_n_0_4_12 x idx (ix5 i 0 r c b)
      = x (ix2 ⟨min (idx (ix5 i 0 r c 0)).toInt.toNat 7, by omega⟩ b) := by
  unfold Host.gather
  congr 1
  funext a
  refine Fin.ext ?_
  show gather_S8x2_S16x1x512x512x1_S16x1x512x512x2_4_0_n_n_0_4_12.start (ix5 i 0 r c b) idx a
    + gather_S8x2_S16x1x512x512x1_S16x1x512x512x2_4_0_n_n_0_4_12.batchCoord (ix5 i 0 r c b) a
    + gather_S8x2_S16x1x512x512x1_S16x1x512x512x2_4_0_n_n_0_4_12.offCoord (ix5 i 0 r c b) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin S8x2.rank) ∈ gather_S8x2_S16x1x512x512x1_S16x1x512x512x2_4_0_n_n_0_4_12.startIndexMap from List.mem_singleton.mpr rfl)]
    have e : ∀ h, gather_S8x2_S16x1x512x512x1_S16x1x512x512x2_4_0_n_n_0_4_12.siIdx (ix5 i 0 r c b)
        ⟨List.idxOf (0 : Fin S8x2.rank) gather_S8x2_S16x1x512x512x1_S16x1x512x512x2_4_0_n_n_0_4_12.startIndexMap, h⟩
        = ix5 i 0 r c 0 := by
      intro h
      funext a
      match a with
      | ⟨0, _⟩ => rfl
      | ⟨1, _⟩ => rfl
      | ⟨2, _⟩ => rfl
      | ⟨3, _⟩ => rfl
      | ⟨4, _⟩ => rfl
    rw [e]
    rfl
  · have e : gather_S8x2_S16x1x512x512x1_S16x1x512x512x2_4_0_n_n_0_4_12.start (ix5 i 0 r c b) idx (1 : Fin S8x2.rank) = 0 := by
      unfold GatherDims.start
      exact dif_neg (by decide)
    rw [e, Nat.zero_add]
    rfl

/-- The rows of the selections looked up at an array of words. -/
theorem pick_at (x : FVec Ideal S16x8x512x512 .f32) (idx : IVec S16x2x512x512x1 32) (i : Fin 16) (r c : Fin 512) (b : Fin 2) :
    Host.gather gather_S16x8x512x512_S16x2x512x512x1_S16x2x512x512_n_1_023_023_1_4_1111 x idx (ix4 i b r c)
      = x (ix4 i ⟨min (idx (ix5 i b r c 0)).toInt.toNat 7, by omega⟩ r c) := by
  unfold Host.gather
  congr 1
  funext a
  refine Fin.ext ?_
  show gather_S16x8x512x512_S16x2x512x512x1_S16x2x512x512_n_1_023_023_1_4_1111.start (ix4 i b r c) idx a
    + gather_S16x8x512x512_S16x2x512x512x1_S16x2x512x512_n_1_023_023_1_4_1111.batchCoord (ix4 i b r c) a
    + gather_S16x8x512x512_S16x2x512x512x1_S16x2x512x512_n_1_023_023_1_4_1111.offCoord (ix4 i b r c) a = _
  rw [GatherDims.offCoord_eq_zero _ _ _ (by revert a; decide)]
  have h03 : a = 1 ∨ (a = 0 ∨ a = 2 ∨ a = 3) := by
    match a with
    | ⟨0, _⟩ => exact Or.inr (Or.inl rfl)
    | ⟨1, _⟩ => exact Or.inl rfl
    | ⟨2, _⟩ => exact Or.inr (Or.inr (Or.inl rfl))
    | ⟨3, _⟩ => exact Or.inr (Or.inr (Or.inr rfl))
  rcases h03 with rfl | h03
  · rw [GatherDims.batchCoord_eq_zero _ _ _ (by decide)]
    unfold GatherDims.start
    rw [dif_pos (show (1 : Fin S16x8x512x512.rank) ∈ gather_S16x8x512x512_S16x2x512x512x1_S16x2x512x512_n_1_023_023_1_4_1111.startIndexMap from List.mem_singleton.mpr rfl)]
    have e : ∀ h, gather_S16x8x512x512_S16x2x512x512x1_S16x2x512x512_n_1_023_023_1_4_1111.siIdx (ix4 i b r c)
        ⟨List.idxOf (1 : Fin S16x8x512x512.rank) gather_S16x8x512x512_S16x2x512x512x1_S16x2x512x512_n_1_023_023_1_4_1111.startIndexMap, h⟩
        = ix5 i b r c 0 := by
      intro h
      funext a
      match a with
      | ⟨0, _⟩ => rfl
      | ⟨1, _⟩ => rfl
      | ⟨2, _⟩ => rfl
      | ⟨3, _⟩ => rfl
      | ⟨4, _⟩ => rfl
    rw [e]
    rfl
  · have hm : a ∈ gather_S16x8x512x512_S16x2x512x512x1_S16x2x512x512_n_1_023_023_1_4_1111.operandBatchingDims := by
      rcases h03 with rfl | rfl | rfl <;> decide
    rw [GatherDims.start_batching _ _ _ _ hm, Nat.zero_add, Nat.add_zero]
    unfold GatherDims.batchCoord
    rw [dif_pos hm]
    rcases h03 with rfl | rfl | rfl <;> rfl

/-- The wrapped index: a word below 8 read as itself. -/
theorem wrapped (w : BitVec 32) (n : ℕ) (h : n < 8) (hw : w = BitVec.ofNat 32 n) :
    Scalar.select (IntOp.cmpi .slt w 0#32) (IntOp.addi w 8#32) w = BitVec.ofNat 32 n := by
  subst hw
  interval_cases n <;> rfl

theorem wrapped_at (v : IVec S16x1x512x512 32) (i : Fin 16) (r c : Fin 512) (n : ℕ) (h : n < 8) (hv : v (ix4 i 0 r c) = BitVec.ofNat 32 n) :
    broadcastInDim S16x1x512x512x1 ![0, 1, 2, 3] bcast_S16x1x512x512_S16x1x512x512x1_0_1_2_3 (select (cmpi .slt v (broadcastInDim S16x1x512x512 ![] bcast_S_S16x1x512x512 (constantI S_ 32 0#32))) (addi v (broadcastInDim S16x1x512x512 ![] bcast_S_S16x1x512x512 (constantI S_ 32 8#32))) v) (ix5 i 0 r c 0)
      = BitVec.ofNat 32 n := by
  pointwise []
  exact wrapped _ n h hv

theorem pairOf_lt : ∀ (n : Fin 8) (b : Fin 2), pairOf n b < 8 := by decide

/-- A table row looked up at a word known to be below 8. -/
theorem lookup_row (x : IVec S8x2 32) (idx : IVec S16x1x512x512x1 32) (i : Fin 16) (r c : Fin 512) (b : Fin 2) (n : Fin 8)
    (h : idx (ix5 i 0 r c 0) = BitVec.ofNat 32 n.val) :
    Host.gather gather_S8x2_S16x1x512x512x1_S16x1x512x512x2_4_0_n_n_0_4_12 x idx (ix5 i 0 r c b) = x (ix2 n b) := by
  rw [lookup_at]
  refine congrArg (fun k => x (ix2 k b)) (Fin.ext ?_)
  show min (idx (ix5 i 0 r c 0)).toInt.toNat 7 = n.val
  rw [h]
  clear h
  revert n; decide

/-- A selection looked up at a word known to be below 8. -/
theorem pick_row (x : FVec Ideal S16x8x512x512 .f32) (idx : IVec S16x2x512x512x1 32) (i : Fin 16) (r c : Fin 512) (b : Fin 2) (n : Fin 8)
    (h : idx (ix5 i b r c 0) = BitVec.ofNat 32 n.val) :
    Host.gather gather_S16x8x512x512_S16x2x512x512x1_S16x2x512x512_n_1_023_023_1_4_1111 x idx (ix4 i b r c) = x (ix4 i n r c) := by
  rw [pick_at]
  refine congrArg (fun k => x (ix4 i k r c)) (Fin.ext ?_)
  show min (idx (ix5 i b r c 0)).toInt.toNat 7 = n.val
  rw [h]
  clear h
  revert n; decide

/-- Words below 8 pass the reference's range test. -/
theorem in_range (v : IVec S16x2x512x512x1 32) (h : ∀ i b r c o, ∃ n, n < 8 ∧ v (ix5 i b r c o) = BitVec.ofNat 32 n) (i : S16x2x512x512x1.Idx) :
    andi (cmpi .sge v (broadcastInDim S16x2x512x512x1 ![] bcast_S_S16x2x512x512x1 (constantI S_ 32 0#32))) (cmpi .sle v (broadcastInDim S16x2x512x512x1 ![0, 1, 2, 3, 4] bcast_S1x1x1x1x1_S16x2x512x512x1_0_1_2_3_4 (broadcastInDim S1x1x1x1x1 ![4] bcast_S1_S1x1x1x1x1_4 (constantI S1 32 7#32)))) i = 1#1 := by
  idx_vars i
  pointwise []
  obtain ⟨n, hn, e⟩ := h _ _ _ _ _
  rw [e]
  interval_cases n <;> rfl

section
variable (hp : ∀ (k : Fin 8) (b : Fin 2), V0 (Proc.devRef .tc main_arg5) (ix2 k b) = BitVec.ofNat 32 (pairOf k b))
include hp

theorem v74_some (i : Fin 16) (b : Fin 2) (r c : Fin 512) : ∃ n : ℕ, n < 8 ∧ res_main_v74 V0 (ix4 i b r c) = BitVec.ofNat 32 n := by
  pointwise [res_main_v74]
  rw [lookup_at, hp]
  exact ⟨_, pairOf_lt _ b, rfl⟩

theorem five_some (i : Fin 16) (b : Fin 2) (r c : Fin 512) (o : Fin 1) : ∃ n : ℕ, n < 8 ∧ res_main_call5_v5 V0 (ix5 i b r c o) = BitVec.ofNat 32 n := by
  obtain ⟨n, hn, e⟩ := v74_some V0 hp i b r c
  refine ⟨n, hn, ?_⟩
  pointwise [res_main_call5_v5]
  exact wrapped _ _ hn e

variable {i : Fin 16} {r c : Fin 512} {n : Fin 8} (hn : res_main_v50 V0 (ix4 i 0 r c) = BitVec.ofNat 32 n.val)
include hn

theorem v74_at (b : Fin 2) : res_main_v74 V0 (ix4 i b r c) = BitVec.ofNat 32 (pairOf n b) := by
  pointwise [res_main_v74]
  rw [lookup_row _ _ i r c b n (wrapped_at _ i r c n.val n.isLt hn), hp]

theorem five_at (b : Fin 2) (o : Fin 1) : res_main_call5_v5 V0 (ix5 i b r c o) = BitVec.ofNat 32 (pairOf n b) := by
  pointwise [res_main_call5_v5]
  exact wrapped _ _ (pairOf_lt n b) (v74_at V0 hp hn b)

theorem v75_at (b : Fin 2) : res_main_v75 V0 (ix4 i b r c) = selected V0 (ix4 i ⟨pairOf n b, pairOf_lt n b⟩ r c) := by
  unfold res_main_v75
  show Scalar.select (Host.reduce IntOp.andi _ _ _ _ (ix4 i b r c)) (Host.gather _ (selected V0) (res_main_call5_v5 V0) (ix4 i b r c)) _ = _
  rw [pick_row (selected V0) (res_main_call5_v5 V0) i r c b ⟨pairOf n b, pairOf_lt n b⟩ (five_at V0 hp hn b 0),
    Host.reduce_andi_one _ _ _ _ _ rfl (in_range _ (five_some V0 hp))]
  rfl

end

end Cert.ReferenceIdeal.Value

end
-- ==== Proof.REdge.lean ====
/- What the reference's edge array holds, position by position. -/
module

public import proofs.«01_k».proof.Proof.RTurn

@[expose] public section

set_option maxRecDepth 16384

noncomputable section

namespace Cert.ReferenceIdeal.Value

open Idealize.ShloMosaic Idealize.ShloMosaic.TcCoe Cert.Canny
open Cert.ReferenceIdeal Cert.ReferenceIdeal.Gen

variable (V0 : Valuation τ sig (Elt Ideal))

theorem low_pos : 0 < lowWord := by
  have e : lowWord = ((13421773 / 134217728 : ℝ) : EReal) := by
    simp [lowWord, Ideal.ofBits, Ideal.ieee, -EReal.coe_mul]; norm_num
  rw [e, ← EReal.coe_zero, EReal.coe_lt_coe_iff]
  norm_num

/-- The hysteresis stage, whatever its neighbour test `q` says: no value lies both below and above the threshold, so
    what remains is the threshold alone. -/
theorem thresholded (v : FVec Ideal S16x1x512x512 .f32) (q : IVec S16x1x512x512 1) (i : Fin 16) (r c : Fin 512) :
    (select (cmpf .ogt (select (andi (noti (andi (andi (cmpf .olt v (broadcastInDim S16x1x512x512 ![] bcast_S_S16x1x512x512 (constant S_ .f32 0x3DCCCCCD#32))) (cmpf .ogt v (broadcastInDim S16x1x512x512 ![] bcast_S_S16x1x512x512 (constant S_ .f32 0x3DCCCCCD#32)))) q)) (noti (cmpf .ogt v (broadcastInDim S16x1x512x512 ![] bcast_S_S16x1x512x512 (constant S_ .f32 0x3DCCCCCD#32)))))
      (broadcastInDim S16x1x512x512 ![] bcast_S_S16x1x512x512 (id (constant S_ .f32 0x00000000#32))) v) (broadcastInDim S16x1x512x512 ![] bcast_S_S16x1x512x512 (constant S_ .f32 0x3DCCCCCD#32)))
      (broadcastInDim S16x1x512x512 ![] bcast_S_S16x1x512x512 (constant S_ .f32 0x3F800000#32))
      (broadcastInDim S16x1x512x512 ![] bcast_S_S16x1x512x512 (constant S_ .f32 0x00000000#32)) : FVec Ideal S16x1x512x512 .f32) (ix4 i 0 r c)
      = if lowWord < v (ix4 i 0 r c) then (1 : EReal) else 0 := by
  pointwise []
  have hz : id (constant (F := Ideal) S_ FTy.f32 0#32) ix0 = (0 : EReal) := Ideal.ofBits_zero_f32
  rw [hz]
  generalize v (ix4 i 0 r c) = x
  generalize q (ix4 i 0 r c) = b
  have hl := low_pos
  unfold lowWord at hl ⊢
  generalize Ideal.ofBits FTy.f32 1036831949#32 = l at hl ⊢
  by_cases h : l < x
  · have h' : ¬ x < l := not_lt.mpr h.le
    rw [decide_eq_true h, decide_eq_false h', show Scalar.select (IntOp.andi (~~~IntOp.andi (IntOp.andi (BitVec.ofBool false) (BitVec.ofBool true)) b) (~~~BitVec.ofBool true)) (0 : EReal) x = x by
      revert b; intro b; have hb : b = 0#1 ∨ b = 1#1 := by revert b; decide
      rcases hb with rfl | rfl <;> rfl]
  · rw [decide_eq_false h, show ∀ d : Bool, Scalar.select (IntOp.andi (~~~IntOp.andi (IntOp.andi (BitVec.ofBool d) (BitVec.ofBool false)) b) (~~~BitVec.ofBool false)) (0 : EReal) x = 0 by
      intro d; have hb : b = 0#1 ∨ b = 1#1 := by revert b; decide
      cases d <;> rcases hb with rfl | rfl <;> rfl, if_neg h, if_neg (not_lt.mpr hl.le)]

/-- What the suppression leaves at a position. -/
theorem suppressed_at (g : FVec Ideal S16x1x512x512 .f32) (p : FVec Ideal S16x2x512x512 .f32) (i : Fin 16) (r c : Fin 512) :
    (select (ori (cmpf .ole g (extractStridedSlice S16x1x512x512 ![0, 0, 0, 0] p slices_S16x2x512x512_S16x1x512x512_0_0_0_0)) (cmpf .olt g (extractStridedSlice S16x1x512x512 ![0, 1, 0, 0] p slices_S16x2x512x512_S16x1x512x512_0_1_0_0))) (broadcastInDim S16x1x512x512 ![] bcast_S_S16x1x512x512 (id (constant S_ .f32 0x00000000#32))) g : FVec Ideal S16x1x512x512 .f32) (ix4 i 0 r c)
      = if p (ix4 i 0 r c) < g (ix4 i 0 r c) ∧ p (ix4 i 1 r c) ≤ g (ix4 i 0 r c) then g (ix4 i 0 r c) else 0 := by
  pointwise []
  have hz : id (constant (F := Ideal) S_ FTy.f32 0#32) ix0 = (0 : EReal) := Ideal.ofBits_zero_f32
  rw [hz]
  generalize g (ix4 i 0 r c) = x
  generalize p (ix4 i 0 r c) = a
  generalize p (ix4 i 1 r c) = b
  by_cases h1 : a < x
  · by_cases h2 : b ≤ x
    · rw [if_pos ⟨h1, h2⟩, decide_eq_false (not_le.mpr h1), decide_eq_false (not_lt.mpr h2)]
      rfl
    · rw [if_neg (fun h => h2 h.2), decide_eq_false (not_le.mpr h1), decide_eq_true (not_le.mp h2)]
      rfl
  · rw [if_neg (fun h => h1 h.1), decide_eq_true (not_lt.mp h1)]
    by_cases h2 : x < b
    · rw [decide_eq_true h2]; rfl
    · rw [decide_eq_false h2]; rfl

/-- The weak threshold. -/
theorem weak_at (v : FVec Ideal S16x1x512x512 .f32) (i : Fin 16) (r c : Fin 512) :
    (select (cmpf .olt v (broadcastInDim S16x1x512x512 ![] bcast_S_S16x1x512x512 (constant S_ .f32 0x3DCCCCCD#32))) (broadcastInDim S16x1x512x512 ![] bcast_S_S16x1x512x512 (id (constant S_ .f32 0x00000000#32))) v : FVec Ideal S16x1x512x512 .f32) (ix4 i 0 r c)
      = if v (ix4 i 0 r c) < lowWord then 0 else v (ix4 i 0 r c) := by
  pointwise []
  rw [show id (constant (F := Ideal) S_ FTy.f32 0#32) ix0 = (0 : EReal) from Ideal.ofBits_zero_f32]
  rfl

/-- The compared neighbours, the suppressed magnitude, and what the weak threshold leaves, by row and column. -/
def nearR (i : Fin 16) (b : Fin 2) (r c : Fin 512) : EReal := res_main_v75 V0 (ix4 i b r c)
def peakR (i : Fin 16) (r c : Fin 512) : EReal := res_main_v81 V0 (ix4 i 0 r c)
def thinR (i : Fin 16) (r c : Fin 512) : EReal := res_main_v84 V0 (ix4 i 0 r c)

/-- Above the threshold after suppression and the weak threshold: the three comparisons. -/
theorem above_iff (i : Fin 16) (r c : Fin 512) : lowWord < thinR V0 i r c
    ↔ nearR V0 i 0 r c < magR V0 i r c ∧ nearR V0 i 1 r c ≤ magR V0 i r c ∧ lowWord < magR V0 i r c := by
  have e84 : thinR V0 i r c = if peakR V0 i r c < lowWord then 0 else peakR V0 i r c :=
    weak_at (res_main_v81 V0) i r c
  have e81 : peakR V0 i r c = if nearR V0 i 0 r c < magR V0 i r c
      ∧ nearR V0 i 1 r c ≤ magR V0 i r c then magR V0 i r c else 0 := by
    rw [← v40_at V0 i 0]
    exact suppressed_at (res_main_v40 V0) (res_main_v75 V0) i r c
  rw [e84, e81]
  generalize nearR V0 i 0 r c = a
  generalize nearR V0 i 1 r c = b
  generalize magR V0 i r c = g
  have hl := low_pos
  generalize lowWord = l at *
  by_cases h : a < g ∧ b ≤ g
  · rw [if_pos h]
    by_cases h' : g < l
    · rw [if_pos h']
      exact ⟨fun k => absurd k (not_lt.mpr hl.le), fun k => absurd k.2.2 (not_lt.mpr h'.le)⟩
    · rw [if_neg h']
      exact ⟨fun k => ⟨h.1, h.2, k⟩, fun k => k.2.2⟩
  · rw [if_neg h, if_pos hl]
    exact ⟨fun k => absurd k (not_lt.mpr hl.le), fun k => absurd ⟨k.1, k.2.1⟩ h⟩

/-- For reals, the sector by comparisons. -/
theorem sector_real (y x : ℝ) : ((sector (y : EReal) (x : EReal)).val : ℤ) = sectorR y x := by
  unfold sector sectorR
  have ha : ∀ z : ℝ, FloatOps.absf (F := Ideal) (φ := .f32) (z : EReal) = ((|z| : ℝ) : EReal) := fun z => by
    show max (z : EReal) (-(z : EReal)) = _
    rw [← EReal.coe_neg]
    exact (EReal.coe_strictMono.monotone.map_max).symm
  rw [ha, ha, word_slope, ← EReal.coe_mul, ← EReal.coe_mul, ← EReal.coe_mul, ← EReal.coe_zero]
  simp only [EReal.coe_le_coe_iff, EReal.coe_lt_coe_iff]
  split_ifs <;> rfl

/-- The two neighbours compared at a direction are the sector's. -/
theorem neighbours : ∀ n : Fin 8, ∀ s : Fin 4, n.val % 4 = s.val →
    (place ⟨pairOf n 0, pairOf_lt n 0⟩).val / 3 = overRow s ∧ (place ⟨pairOf n 0, pairOf_lt n 0⟩).val % 3 = overCol s
    ∧ (place ⟨pairOf n 1, pairOf_lt n 1⟩).val / 3 = notBelowRow s ∧ (place ⟨pairOf n 1, pairOf_lt n 1⟩).val % 3 = notBelowCol s := by
  decide

/-- The reference's edge at a position whose direction clears the sectors' boundaries. -/
theorem edge_at (hp : ∀ (k : Fin 8) (b : Fin 2), V0 (Proc.devRef .tc main_arg5) (ix2 k b) = BitVec.ofNat 32 (pairOf k b))
    (hs : ∀ (k : Fin 8) (t : Fin 9), V0 (Proc.devRef .tc main_arg3) (ix4 k 0 ⟨t.val / 3, by omega⟩ ⟨t.val % 3, by omega⟩)
      = if t = place k then (1 : EReal) else 0)
    {i : Fin 16} {r c : Fin 512} {y x : ℝ} (hy : sxR V0 i r c = (y : EReal)) (hx : syR V0 i r c + epsWord = (x : EReal))
    (h : Clear y x) :
    (if lowWord < thinR V0 i r c then (1 : EReal) else 0)
      = edgeBy (sector (sxR V0 i r c) (syR V0 i r c + epsWord)) (magR V0 i) r c := by
  obtain ⟨k, hk, h0, h1, h4⟩ := eighths_sector h
  rw [hy, hx]
  have hsec := sector_real y x
  generalize sector (y : EReal) (x : EReal) = s at hsec
  have hn : res_main_v50 V0 (ix4 i 0 r c) = BitVec.ofNat 32 (⟨((k + 4) % 8).toNat, by omega⟩ : Fin 8).val := by
    rw [v50_at V0 hy hx hk h0 h1]
    have e : (((((k + 4) % 8).toNat : ℕ)) : ℤ) = (k + 4) % 8 := Int.toNat_of_nonneg (by omega)
    conv_lhs => rw [← e]
    rfl
  obtain ⟨n1, n2, n3, n4⟩ := neighbours ⟨((k + 4) % 8).toNat, by omega⟩ s (by
    have : ((((k + 4) % 8).toNat % 4 : ℕ) : ℤ) = s.val := by omega
    exact_mod_cast this)
  have a0 : nearR V0 i 0 r c = _ := (v75_at V0 hp hn 0).trans (selected_at V0 hs i _ r c)
  have a1 : nearR V0 i 1 r c = _ := (v75_at V0 hp hn 1).trans (selected_at V0 hs i _ r c)
  rw [n1, n2] at a0
  rw [n3, n4] at a1
  unfold edgeBy
  refine if_congr ?_ rfl rfl
  rw [above_iff, a0, a1]

end Cert.ReferenceIdeal.Value

end
-- ==== Proof.Mask.lean ====
/- What the comparison's mask says of a position. -/
module

public import proofs.«01_k».proof.Proof.REdge
public import proofs.«01_k».proof.Proof.Gen.On_off_the_boundaries

@[expose] public section

set_option maxRecDepth 16384

noncomputable section

namespace Cert.Canny

open Idealize.ShloMosaic Idealize.ShloMosaic.TcCoe
open Cert.ReferenceIdeal Cert.ReferenceIdeal.Gen Cert.ReferenceIdeal.Value

variable (V0 : Valuation τ sig (Elt Ideal))

/-- The mask of the reference's arguments. -/
def mask [Cert.On_off_the_boundaries.Facts] : IVec S16x1x512x512 1 :=
  (Cert.On_off_the_boundaries.fn (F := Ideal) (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))).1

/-- The mask compares the reference's own two responses. -/
theorem mask_eq [Cert.On_off_the_boundaries.Facts] : mask V0 = (Cert.On_off_the_boundaries.fn_part2 (F := Ideal) (res_main_v36 V0) (Host.absf (res_main_v31 V0))
    (constant S_ .f32 0x3727C5AC#32)).1 := by
  unfold mask Cert.On_off_the_boundaries.fn
  rfl

theorem oge_at {s : Shape} (x y : FVec Ideal s .f32) (i : s.Idx) : cmpf .oge x y i = 1#1 ↔ y i ≤ x i := by
  pointwise []
  by_cases h : y i ≤ x i <;> simp [h]

theorem abs_real (z : ℝ) : FloatOps.absf (F := Ideal) (φ := .f32) (z : EReal) = ((|z| : ℝ) : EReal) := by
  show max (z : EReal) (-(z : EReal)) = _
  rw [← EReal.coe_neg]
  exact (EReal.coe_strictMono.monotone.map_max).symm

/-- One of the mask's two comparisons, of reals. -/
theorem clears (a b : ℝ) (h : Ideal.ofBits .f32 0x34000000#32 * (b : EReal) ≤ FloatOps.absf (F := Ideal) (φ := .f32) ((a : EReal) - Ideal.ofBits .f32 0x3ED413CD#32 * (b : EReal))) :
    margin * b ≤ |a - Cert.Canny.slope * b| := by
  rw [word_margin, show Ideal.ofBits .f32 0x3ED413CD#32 = (Cert.Canny.slope : EReal) from word_slope, ← EReal.coe_mul, ← EReal.coe_mul, ← EReal.coe_sub, abs_real] at h
  exact EReal.coe_le_coe_iff.mp h

theorem part2_at [Cert.On_off_the_boundaries.Facts] (sx sy : FVec Ideal S16x1x512x512 .f32) (i : Fin 16) (r c : Fin 512)
    {y x : ℝ} (hy : sx (ix4 i 0 r c) = (y : EReal)) (hx : (sy (ix4 i 0 r c) : EReal) + epsWord = (x : EReal))
    (h : (Cert.On_off_the_boundaries.fn_part2 (F := Ideal) sy (Host.absf sx) (constant S_ .f32 0x3727C5AC#32)).1 (ix4 i 0 r c) = 1#1) : Clear y x := by
  unfold Cert.On_off_the_boundaries.fn_part2 at h
  have e := IntOp.andi_eq_one.mp h
  have e1 := (oge_at _ _ _).mp e.1
  have e2 := (oge_at _ _ _).mp e.2
  have ay : FloatOps.absf (F := Ideal) (φ := .f32) (sx (ix4 i 0 r c)) = ((|y| : ℝ) : EReal) := by rw [hy, abs_real]
  have ax : FloatOps.absf (F := Ideal) (φ := .f32) ((sy (ix4 i 0 r c) : EReal) + epsWord) = ((|x| : ℝ) : EReal) := by rw [hx, abs_real]
  refine ⟨clears |y| |x| ?_, clears |x| |y| ?_⟩
  · rw [← ay, ← ax]
    exact e1
  · rw [← ay, ← ax]
    exact e2

/-- Where the mask holds, the direction clears the sectors' boundaries. -/
theorem mask_clear [Cert.On_off_the_boundaries.Facts] {i : Fin 16} {r c : Fin 512} {y x : ℝ}
    (hy : sxR V0 i r c = (y : EReal)) (hx : syR V0 i r c + epsWord = (x : EReal)) (h : mask V0 (ix4 i 0 r c) = 1#1) : Clear y x := by
  rw [mask_eq] at h
  exact part2_at (res_main_v31 V0) (res_main_v36 V0) i r c hy hx h

end Cert.Canny

end
-- ==== Proof.First.lean ====
/- The first result: where the mask holds, the kernel's edge is the reference's. -/
module

public import proofs.«01_k».proof.Proof.Both
public import proofs.«01_k».proof.Proof.Mask

@[expose] public section

set_option maxRecDepth 16384

noncomputable section

namespace Cert.Canny

open Idealize.ShloMosaic Idealize.ShloMosaic.TcCoe
open Cert.KernelIdeal.Hand Cert.ReferenceIdeal.Value

variable {m : (ℓ : Loc KernelIdeal.nD KernelIdeal.τ KernelIdeal.sig) → Buf (Elt Ideal) ℓ} {c : Dev KernelIdeal.nD}
  {V0 : Valuation ReferenceIdeal.τ ReferenceIdeal.sig (Elt Ideal)} (S : Shared m c V0)
include S

/-- The kernel's edge by the reference's responses. -/
theorem Shared.edge (j : Fin 16) (r q : Fin 512) : edges m c (ix4 j 0 r q)
    = edgeBy (sector (sxR V0 j r q) (syR V0 j r q + epsWord)) (magR V0 j) r q := by
  refine (edgeK_at (KernelIdeal.Gen.k0_pay2 (img m c j.val)) (allTop m c) (KernelIdeal.Gen.V m c KernelIdeal.main_v0)
    (KernelIdeal.Gen.V m c KernelIdeal.main_v1) r q).trans ?_
  unfold magK
  rw [S.sx, S.sy]

/-- Where the mask holds, the kernel's edge is the threshold of what the reference's thinning leaves. -/
theorem Shared.first [Cert.On_off_the_boundaries.Facts] (j : Fin 16) (r q : Fin 512) (h : mask V0 (ix4 j 0 r q) = 1#1) :
    edges m c (ix4 j 0 r q) = if lowWord < thinR V0 j r q then (1 : EReal) else 0 := by
  rw [S.edge]
  obtain ⟨y, hy⟩ := S.sx_real j r q
  obtain ⟨s, hs⟩ := S.sy_real j r q
  obtain ⟨e, he⟩ := word_eps
  have hx : syR V0 j r q + epsWord = ((s + e : ℝ) : EReal) := by rw [hs, he, EReal.coe_add]
  exact (edge_at V0 S.given.pairs S.given.selections hy hx (mask_clear V0 hy hx h)).symm

end Cert.Canny

end
-- ==== Proof.lean ====
/- The claims, put together from the two kernel frames and the reference's run. -/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_canny_tables
public import proofs.«01_k».proof.Proof.Gen.On_off_the_boundaries
public import proofs.«01_k».proof.Proof.Same
public import proofs.«01_k».proof.Proof.KFinal
public import proofs.«01_k».proof.Proof.First
public import Idealize.ShloMosaic.Adequacy
public import Idealize.ShloMosaic.Init

@[expose] public section

set_option maxRecDepth 16384

noncomputable section

namespace Cert.Proof

open Idealize.ShloMosaic Idealize.SL.Sem

/-- The reference writes none of its arguments and declares no semaphore. -/
theorem frame_reference : Cert.quiescent_ReferenceIdeal := fun m g _ =>
  (θ_run Cert.ReferenceIdeal.defs _ _).mono (fun r h => And.intro (fun c => (h c).2.2)
      (Idealize.ShloMosaic.sem_eq_zero_of_no_sems (by decide) r.2))
    (Cert.ReferenceIdeal.Value.run (F := Ideal) m g)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's argument, and the reference's, on one device. -/
abbrev argK (b : Ref Cert.KernelIdeal.sig .tc) := m ((c.tc : Thread Cert.KernelIdeal.nD Cert.KernelIdeal.τ).loc b)
abbrev argR (b : Ref Cert.ReferenceIdeal.sig .tc) : (Proc.devRef .tc b : DevRef Cert.ReferenceIdeal.τ Cert.ReferenceIdeal.sig).ty.Contents (Elt Ideal) :=
  StableHlo.launchContents m' c (Proc.devRef .tc b)

/-- What the two programs share when they are given the same arguments. -/
theorem shared (hp : Cert.Canny.Holds (argK m c Cert.KernelIdeal.main_arg0) (argK m c Cert.KernelIdeal.main_arg1) (argK m c Cert.KernelIdeal.main_arg2)
      (argK m c Cert.KernelIdeal.main_arg3) (argK m c Cert.KernelIdeal.main_arg4) (argK m c Cert.KernelIdeal.main_arg5))
    (e0 : argR m' c Cert.ReferenceIdeal.main_arg0 = argK m c Cert.KernelIdeal.main_arg0)
    (e1 : argR m' c Cert.ReferenceIdeal.main_arg1 = argK m c Cert.KernelIdeal.main_arg1)
    (e2 : argR m' c Cert.ReferenceIdeal.main_arg2 = argK m c Cert.KernelIdeal.main_arg2)
    (e3 : argR m' c Cert.ReferenceIdeal.main_arg3 = argK m c Cert.KernelIdeal.main_arg3)
    (e5 : argR m' c Cert.ReferenceIdeal.main_arg5 = argK m c Cert.KernelIdeal.main_arg5) :
    Cert.Canny.Shared m c (StableHlo.launchContents m' c) := by
  unfold argR at e0 e1 e2 e3 e5
  refine ⟨?_, ?_, ?_, ?_⟩
  · unfold Cert.ReferenceIdeal.Value.batchR Cert.KernelIdeal.Hand.batchK
    rw [e0]
  · rw [Cert.Canny.weights_x, e1]
  · rw [Cert.Canny.weights_y, e2]
  · rw [e0, e1, e2, e3, e5]
    exact Cert.Canny.given hp

end

/-- The kernel's two results are the reference's, the first wherever the mask holds. -/
theorem algebraic : Cert.algebraic_KernelIdeal_ReferenceIdeal_on_off_the_boundaries_pre_canny_tables := by
  intro m g m' g' hp he
  have S : ∀ c : Dev Cert.KernelIdeal.nD, Cert.Canny.Shared m c (StableHlo.launchContents m' c) := fun c =>
    shared m m' c (hp c) (he c).1 (he c).2.1 (he c).2.2.1 (he c).2.2.2.1 (he c).2.2.2.2.2
  refine ⟨Cert.KernelIdeal.Hand.edges m, Cert.KernelIdeal.Hand.responses m, ?_, ?_⟩
  · exact (θ_run Cert.KernelIdeal.defs _ _).mono (fun r h c => ⟨
        fun i _ => congrFun ((h.1.out_eq c 3).trans (Cert.KernelIdeal.Hand.final_3 m c)) i,
        fun i _ => congrFun ((h.1.out_eq c 4).trans (Cert.KernelIdeal.Hand.final_4 m c)) i, h.2 c⟩)
      (θ_run_and (Cert.KernelIdeal.Hand.run_main m g) (Cert.KernelIdeal.Hand.unchanged m g))
  · refine (θ_run Cert.ReferenceIdeal.defs _ _).mono (fun r h c => ⟨fun i hm => ?_,
        fun i _ => congrFun ((h c).2.1.trans (S c).second.symm) i, (h c).2.2⟩) (Cert.ReferenceIdeal.Value.run (F := Ideal) m' g')
    obtain ⟨j, o, k, q, rfl⟩ : ∃ (j : Fin 16) (o : Fin 1) (k q : Fin 512), i = ix4 j o k q := by idx_vars i; exact ⟨_, _, _, _, rfl⟩
    obtain rfl : o = 0 := Subsingleton.elim o 0
    have hmask : Cert.Canny.mask (StableHlo.launchContents m' c) (ix4 j 0 k q) = 1#1 := by
      obtain ⟨e0, e1, e2, e3, e4, e5⟩ := he c
      rw [← e0, ← e1, ← e2, ← e3, ← e4, ← e5] at hm
      exact hm
    exact ((congrFun (h c).1 (ix4 j 0 k q)).trans (Cert.ReferenceIdeal.Value.thresholded
      (Cert.ReferenceIdeal.Value.res_main_v84 (StableHlo.launchContents m' c)) _ j k q)).trans ((S c).first j k q hmask).symm

theorem claim : Cert.Claim := ⟨Cert.Kernel.Gen.facts, Cert.KernelIdeal.Gen.facts, Cert.ReferenceIdeal.Gen.facts, Cert.Pre_canny_tables.Gen.facts, Cert.On_off_the_boundaries.Gen.facts,
  fun m ρ _ => Cert.Same.frame_kernel (F := Bits) m ρ,
  fun m ρ _ => Cert.KernelIdeal.Hand.frame_ideal m ρ, fun m ρ _ => Cert.KernelIdeal.Hand.frame_ideal m ρ,
  frame_reference, fun m ρ _ => frame_reference m ρ trivial,
  trivial, algebraic⟩

end Cert.Proof

end
